-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 128]⟩ ⟨2, ![512, 128]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 256]⟩ ⟨2, ![128, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![128, 256]⟩ ⟨2, ![128, 1024]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 256]⟩ ⟨2, ![128, 1024]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 128]⟩ ⟨2, ![1024, 128]⟩ 0 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![256, 128]⟩ ⟨2, ![1024, 128]⟩ 0 4 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![256, 128]⟩ ⟨2, ![1024, 128]⟩ 0 4 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 128]⟩ ⟨2, ![512, 128]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x128 : Shape := ⟨2, ![128, 128]⟩
abbrev S128x256 : Shape := ⟨2, ![128, 256]⟩
abbrev S256x128 : Shape := ⟨2, ![256, 128]⟩
abbrev S4x128x128 : Shape := ⟨3, ![4, 128, 128]⟩
abbrev S6x3 : Shape := ⟨2, ![6, 3]⟩
abbrev S_ : Shape := ⟨0, ![]⟩
abbrev S1x128x128 : Shape := ⟨3, ![1, 128, 128]⟩
abbrev S1x1 : Shape := ⟨2, ![1, 1]⟩

abbrev nBuf : Space → Nat
  | .hbm => 8
  | .vmem => 17
  | .smem => 0
  | _ => 0

abbrev bufTy : (tb : Table) → Fin (tcTables nBuf tb) → BufTy
  | .hbm, ⟨0, _⟩ => ⟨S128x128, .f32⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S256x128, .f32⟩
  | .hbm, ⟨5, _⟩ => ⟨S256x128, .f32⟩
  | .hbm, ⟨6, _⟩ => ⟨S256x128, .f32⟩
  | .hbm, ⟨7, _⟩ => ⟨S128x128, .f32⟩
  | .local _ .vmem, ⟨0, _⟩ => ⟨S128x128, .f32⟩
  | .local _ .vmem, ⟨1, _⟩ => ⟨S128x256, .f32⟩
  | .local _ .vmem, ⟨2, _⟩ => ⟨S256x128, .f32⟩
  | .local _ .vmem, ⟨3, _⟩ => ⟨S128x256, .f32⟩
  | .local _ .vmem, ⟨4, _⟩ => ⟨S256x128, .f32⟩
  | .local _ .vmem, ⟨5, _⟩ => ⟨S128x256, .f32⟩
  | .local _ .vmem, ⟨6, _⟩ => ⟨S256x128, .f32⟩
  | .local _ .vmem, ⟨7, _⟩ => ⟨S128x128, .f32⟩
  | .local _ .vmem, ⟨8, _⟩ => ⟨S4x128x128, .f32⟩
  | .local _ .vmem, ⟨9, _⟩ => ⟨S4x128x128, .f32⟩
  | .local _ .vmem, ⟨10, _⟩ => ⟨S4x128x128, .f32⟩
  | .local _ .vmem, ⟨11, _⟩ => ⟨S4x128x128, .f32⟩
  | .local _ .vmem, ⟨12, _⟩ => ⟨S4x128x128, .f32⟩
  | .local _ .vmem, ⟨13, _⟩ => ⟨S4x128x128, .f32⟩
  | .local _ .vmem, ⟨14, _⟩ => ⟨S4x128x128, .f32⟩
  | .local _ .vmem, ⟨15, _⟩ => ⟨S4x128x128, .f32⟩
  | .local _ .vmem, ⟨16, _⟩ => ⟨S4x128x128, .f32⟩
  | _, _ => ⟨S128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 1 → Bool
  | ⟨0, _⟩ => false
  | _ => false

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  (ofTc nBuf bufTy 1 44 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_scratch8 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v45 : Index := Scalar.indexCast v2
  let c0_29 : Index := 0#32
  let c0_30 : Index := 0#32
  ![v45.toNat, 0, 0]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_44 : BitVec 32 := 0#32
  let c0_i32_45 : BitVec 32 := 0#32
  ![v2.toNat, 0, 0]
def k0_dev4 (d0 : Dev nD) : Nat :=
  let c0_i32_43 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_31 : BitVec 32 := 1#32
  let v49 : BitVec 32 := Scalar.addi v2 c1_i32_31
  let c4_i32_32 : BitVec 32 := 4#32
  let c0_i32_33 : BitVec 32 := 0#32
  let v50 : BitVec 1 := Scalar.cmpi .eq c4_i32_32 c0_i32_33
  let c1_i32_34 : BitVec 32 := 1#32
  let v51 : BitVec 32 := Scalar.select v50 c1_i32_34 c4_i32_32
  let v52 : BitVec 32 := Scalar.remsi v49 v51
  let c0_i32_36 : BitVec 32 := 0#32
  let v54 : BitVec 1 := Scalar.cmpi .slt v52 c0_i32_36
  let c0_i32_37 : BitVec 32 := 0#32
  let v55 : BitVec 1 := Scalar.cmpi .slt v51 c0_i32_37
  let v56 : BitVec 1 := Scalar.xori v54 v55
  let c0_i32_35 : BitVec 32 := 0#32
  let v53 : BitVec 1 := Scalar.cmpi .ne v52 c0_i32_35
  let v57 : BitVec 1 := Scalar.andi v56 v53
  let v58 : BitVec 32 := Scalar.addi v52 v51
  let v59 : BitVec 32 := Scalar.select v57 v58 v52
  let c1_i32_42 : BitVec 32 := 1#32
  let v60 : BitVec 32 := Scalar.muli v59 c1_i32_42
  let v61 : BitVec 32 := Scalar.addi c0_i32_43 v60
  v61.toNat
def k0_dev5 (d0 : Dev nD) : Nat :=
  let c0_i32_58 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_46 : BitVec 32 := 3#32
  let v68 : BitVec 32 := Scalar.addi v2 c3_i32_46
  let c4_i32_47 : BitVec 32 := 4#32
  let c0_i32_48 : BitVec 32 := 0#32
  let v69 : BitVec 1 := Scalar.cmpi .eq c4_i32_47 c0_i32_48
  let c1_i32_49 : BitVec 32 := 1#32
  let v70 : BitVec 32 := Scalar.select v69 c1_i32_49 c4_i32_47
  let v71 : BitVec 32 := Scalar.remsi v68 v70
  let c0_i32_51 : BitVec 32 := 0#32
  let v73 : BitVec 1 := Scalar.cmpi .slt v71 c0_i32_51
  let c0_i32_52 : BitVec 32 := 0#32
  let v74 : BitVec 1 := Scalar.cmpi .slt v70 c0_i32_52
  let v75 : BitVec 1 := Scalar.xori v73 v74
  let c0_i32_50 : BitVec 32 := 0#32
  let v72 : BitVec 1 := Scalar.cmpi .ne v71 c0_i32_50
  let v76 : BitVec 1 := Scalar.andi v75 v72
  let v77 : BitVec 32 := Scalar.addi v71 v70
  let v78 : BitVec 32 := Scalar.select v76 v77 v71
  let c1_i32_57 : BitVec 32 := 1#32
  let v79 : BitVec 32 := Scalar.muli v78 c1_i32_57
  let v80 : BitVec 32 := Scalar.addi c0_i32_58 v79
  v80.toNat
def k0_dev6 (d0 : Dev nD) : Nat :=
  let c0_i32_73 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_61 : BitVec 32 := 2#32
  let v87 : BitVec 32 := Scalar.addi v2 c2_i32_61
  let c4_i32_62 : BitVec 32 := 4#32
  let c0_i32_63 : BitVec 32 := 0#32
  let v88 : BitVec 1 := Scalar.cmpi .eq c4_i32_62 c0_i32_63
  let c1_i32_64 : BitVec 32 := 1#32
  let v89 : BitVec 32 := Scalar.select v88 c1_i32_64 c4_i32_62
  let v90 : BitVec 32 := Scalar.remsi v87 v89
  let c0_i32_66 : BitVec 32 := 0#32
  let v92 : BitVec 1 := Scalar.cmpi .slt v90 c0_i32_66
  let c0_i32_67 : BitVec 32 := 0#32
  let v93 : BitVec 1 := Scalar.cmpi .slt v89 c0_i32_67
  let v94 : BitVec 1 := Scalar.xori v92 v93
  let c0_i32_65 : BitVec 32 := 0#32
  let v91 : BitVec 1 := Scalar.cmpi .ne v90 c0_i32_65
  let v95 : BitVec 1 := Scalar.andi v94 v91
  let v96 : BitVec 32 := Scalar.addi v90 v89
  let v97 : BitVec 32 := Scalar.select v95 v96 v90
  let c1_i32_72 : BitVec 32 := 1#32
  let v98 : BitVec 32 := Scalar.muli v97 c1_i32_72
  let v99 : BitVec 32 := Scalar.addi c0_i32_73 v98
  v99.toNat
def k0_off3 (d0 : Dev nD) (c1_i32_86 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v121 : BitVec 32 := Scalar.subi v2 c1_i32_86
  let c4_i32_87 : BitVec 32 := 4#32
  let c0_i32_88 : BitVec 32 := 0#32
  let v122 : BitVec 1 := Scalar.cmpi .eq c4_i32_87 c0_i32_88
  let c1_i32_89 : BitVec 32 := 1#32
  let v123 : BitVec 32 := Scalar.select v122 c1_i32_89 c4_i32_87
  let v124 : BitVec 32 := Scalar.remsi v121 v123
  let c0_i32_91 : BitVec 32 := 0#32
  let v126 : BitVec 1 := Scalar.cmpi .slt v124 c0_i32_91
  let c0_i32_92 : BitVec 32 := 0#32
  let v127 : BitVec 1 := Scalar.cmpi .slt v123 c0_i32_92
  let v128 : BitVec 1 := Scalar.xori v126 v127
  let c0_i32_90 : BitVec 32 := 0#32
  let v125 : BitVec 1 := Scalar.cmpi .ne v124 c0_i32_90
  let v129 : BitVec 1 := Scalar.andi v128 v125
  let v130 : BitVec 32 := Scalar.addi v124 v123
  let v131 : BitVec 32 := Scalar.select v129 v130 v124
  let v140 : Index := Scalar.indexCast v131
  let c0_103 : Index := 0#32
  let c0_104 : Index := 0#32
  ![v140.toNat, 0, 0]
def k0_off4 (d0 : Dev nD) (c1_i32_86 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v121 : BitVec 32 := Scalar.subi v2 c1_i32_86
  let c4_i32_87 : BitVec 32 := 4#32
  let c0_i32_88 : BitVec 32 := 0#32
  let v122 : BitVec 1 := Scalar.cmpi .eq c4_i32_87 c0_i32_88
  let c1_i32_89 : BitVec 32 := 1#32
  let v123 : BitVec 32 := Scalar.select v122 c1_i32_89 c4_i32_87
  let v124 : BitVec 32 := Scalar.remsi v121 v123
  let c0_i32_91 : BitVec 32 := 0#32
  let v126 : BitVec 1 := Scalar.cmpi .slt v124 c0_i32_91
  let c0_i32_92 : BitVec 32 := 0#32
  let v127 : BitVec 1 := Scalar.cmpi .slt v123 c0_i32_92
  let v128 : BitVec 1 := Scalar.xori v126 v127
  let c0_i32_90 : BitVec 32 := 0#32
  let v125 : BitVec 1 := Scalar.cmpi .ne v124 c0_i32_90
  let v129 : BitVec 1 := Scalar.andi v128 v125
  let v130 : BitVec 32 := Scalar.addi v124 v123
  let v131 : BitVec 32 := Scalar.select v129 v130 v124
  let c0_i32_118 : BitVec 32 := 0#32
  let c0_i32_119 : BitVec 32 := 0#32
  ![v131.toNat, 0, 0]
def k0_dev7 (d0 : Dev nD) : Nat :=
  let c0_i32_115 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_86 : BitVec 32 := 1#32
  let v121 : BitVec 32 := Scalar.subi v2 c1_i32_86
  let c4_i32_87 : BitVec 32 := 4#32
  let c0_i32_88 : BitVec 32 := 0#32
  let v122 : BitVec 1 := Scalar.cmpi .eq c4_i32_87 c0_i32_88
  let c1_i32_89 : BitVec 32 := 1#32
  let v123 : BitVec 32 := Scalar.select v122 c1_i32_89 c4_i32_87
  let v124 : BitVec 32 := Scalar.remsi v121 v123
  let c0_i32_91 : BitVec 32 := 0#32
  let v126 : BitVec 1 := Scalar.cmpi .slt v124 c0_i32_91
  let c0_i32_92 : BitVec 32 := 0#32
  let v127 : BitVec 1 := Scalar.cmpi .slt v123 c0_i32_92
  let v128 : BitVec 1 := Scalar.xori v126 v127
  let c0_i32_90 : BitVec 32 := 0#32
  let v125 : BitVec 1 := Scalar.cmpi .ne v124 c0_i32_90
  let v129 : BitVec 1 := Scalar.andi v128 v125
  let v130 : BitVec 32 := Scalar.addi v124 v123
  let v131 : BitVec 32 := Scalar.select v129 v130 v124
  let c1_i32_114 : BitVec 32 := 1#32
  let v151 : BitVec 32 := Scalar.muli v131 c1_i32_114
  let v152 : BitVec 32 := Scalar.addi c0_i32_115 v151
  v152.toNat
def k0_dev8 (d0 : Dev nD) : Nat :=
  let c0_i32_149 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_120 : BitVec 32 := 3#32
  let v161 : BitVec 32 := Scalar.subi v2 c3_i32_120
  let c4_i32_121 : BitVec 32 := 4#32
  let c0_i32_122 : BitVec 32 := 0#32
  let v162 : BitVec 1 := Scalar.cmpi .eq c4_i32_121 c0_i32_122
  let c1_i32_123 : BitVec 32 := 1#32
  let v163 : BitVec 32 := Scalar.select v162 c1_i32_123 c4_i32_121
  let v164 : BitVec 32 := Scalar.remsi v161 v163
  let c0_i32_125 : BitVec 32 := 0#32
  let v166 : BitVec 1 := Scalar.cmpi .slt v164 c0_i32_125
  let c0_i32_126 : BitVec 32 := 0#32
  let v167 : BitVec 1 := Scalar.cmpi .slt v163 c0_i32_126
  let v168 : BitVec 1 := Scalar.xori v166 v167
  let c0_i32_124 : BitVec 32 := 0#32
  let v165 : BitVec 1 := Scalar.cmpi .ne v164 c0_i32_124
  let v169 : BitVec 1 := Scalar.andi v168 v165
  let v170 : BitVec 32 := Scalar.addi v164 v163
  let v171 : BitVec 32 := Scalar.select v169 v170 v164
  let c1_i32_148 : BitVec 32 := 1#32
  let v191 : BitVec 32 := Scalar.muli v171 c1_i32_148
  let v192 : BitVec 32 := Scalar.addi c0_i32_149 v191
  v192.toNat
def k0_dev9 (d0 : Dev nD) : Nat :=
  let c0_i32_183 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_154 : BitVec 32 := 2#32
  let v201 : BitVec 32 := Scalar.subi v2 c2_i32_154
  let c4_i32_155 : BitVec 32 := 4#32
  let c0_i32_156 : BitVec 32 := 0#32
  let v202 : BitVec 1 := Scalar.cmpi .eq c4_i32_155 c0_i32_156
  let c1_i32_157 : BitVec 32 := 1#32
  let v203 : BitVec 32 := Scalar.select v202 c1_i32_157 c4_i32_155
  let v204 : BitVec 32 := Scalar.remsi v201 v203
  let c0_i32_159 : BitVec 32 := 0#32
  let v206 : BitVec 1 := Scalar.cmpi .slt v204 c0_i32_159
  let c0_i32_160 : BitVec 32 := 0#32
  let v207 : BitVec 1 := Scalar.cmpi .slt v203 c0_i32_160
  let v208 : BitVec 1 := Scalar.xori v206 v207
  let c0_i32_158 : BitVec 32 := 0#32
  let v205 : BitVec 1 := Scalar.cmpi .ne v204 c0_i32_158
  let v209 : BitVec 1 := Scalar.andi v208 v205
  let v210 : BitVec 32 := Scalar.addi v204 v203
  let v211 : BitVec 32 := Scalar.select v209 v210 v204
  let c1_i32_182 : BitVec 32 := 1#32
  let v231 : BitVec 32 := Scalar.muli v211 c1_i32_182
  let v232 : BitVec 32 := Scalar.addi c0_i32_183 v231
  v232.toNat
def k0_dev10 (d0 : Dev nD) : Nat :=
  let c0_i32_235 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_223 : BitVec 32 := 1#32
  let v281 : BitVec 32 := Scalar.addi v2 c1_i32_223
  let c4_i32_224 : BitVec 32 := 4#32
  let c0_i32_225 : BitVec 32 := 0#32
  let v282 : BitVec 1 := Scalar.cmpi .eq c4_i32_224 c0_i32_225
  let c1_i32_226 : BitVec 32 := 1#32
  let v283 : BitVec 32 := Scalar.select v282 c1_i32_226 c4_i32_224
  let v284 : BitVec 32 := Scalar.remsi v281 v283
  let c0_i32_228 : BitVec 32 := 0#32
  let v286 : BitVec 1 := Scalar.cmpi .slt v284 c0_i32_228
  let c0_i32_229 : BitVec 32 := 0#32
  let v287 : BitVec 1 := Scalar.cmpi .slt v283 c0_i32_229
  let v288 : BitVec 1 := Scalar.xori v286 v287
  let c0_i32_227 : BitVec 32 := 0#32
  let v285 : BitVec 1 := Scalar.cmpi .ne v284 c0_i32_227
  let v289 : BitVec 1 := Scalar.andi v288 v285
  let v290 : BitVec 32 := Scalar.addi v284 v283
  let v291 : BitVec 32 := Scalar.select v289 v290 v284
  let c1_i32_234 : BitVec 32 := 1#32
  let v292 : BitVec 32 := Scalar.muli v291 c1_i32_234
  let v293 : BitVec 32 := Scalar.addi c0_i32_235 v292
  v293.toNat
def k0_dev11 (d0 : Dev nD) : Nat :=
  let c0_i32_252 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_240 : BitVec 32 := 3#32
  let v302 : BitVec 32 := Scalar.addi v2 c3_i32_240
  let c4_i32_241 : BitVec 32 := 4#32
  let c0_i32_242 : BitVec 32 := 0#32
  let v303 : BitVec 1 := Scalar.cmpi .eq c4_i32_241 c0_i32_242
  let c1_i32_243 : BitVec 32 := 1#32
  let v304 : BitVec 32 := Scalar.select v303 c1_i32_243 c4_i32_241
  let v305 : BitVec 32 := Scalar.remsi v302 v304
  let c0_i32_245 : BitVec 32 := 0#32
  let v307 : BitVec 1 := Scalar.cmpi .slt v305 c0_i32_245
  let c0_i32_246 : BitVec 32 := 0#32
  let v308 : BitVec 1 := Scalar.cmpi .slt v304 c0_i32_246
  let v309 : BitVec 1 := Scalar.xori v307 v308
  let c0_i32_244 : BitVec 32 := 0#32
  let v306 : BitVec 1 := Scalar.cmpi .ne v305 c0_i32_244
  let v310 : BitVec 1 := Scalar.andi v309 v306
  let v311 : BitVec 32 := Scalar.addi v305 v304
  let v312 : BitVec 32 := Scalar.select v310 v311 v305
  let c1_i32_251 : BitVec 32 := 1#32
  let v313 : BitVec 32 := Scalar.muli v312 c1_i32_251
  let v314 : BitVec 32 := Scalar.addi c0_i32_252 v313
  v314.toNat
def k0_dev12 (d0 : Dev nD) : Nat :=
  let c0_i32_269 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_257 : BitVec 32 := 2#32
  let v323 : BitVec 32 := Scalar.addi v2 c2_i32_257
  let c4_i32_258 : BitVec 32 := 4#32
  let c0_i32_259 : BitVec 32 := 0#32
  let v324 : BitVec 1 := Scalar.cmpi .eq c4_i32_258 c0_i32_259
  let c1_i32_260 : BitVec 32 := 1#32
  let v325 : BitVec 32 := Scalar.select v324 c1_i32_260 c4_i32_258
  let v326 : BitVec 32 := Scalar.remsi v323 v325
  let c0_i32_262 : BitVec 32 := 0#32
  let v328 : BitVec 1 := Scalar.cmpi .slt v326 c0_i32_262
  let c0_i32_263 : BitVec 32 := 0#32
  let v329 : BitVec 1 := Scalar.cmpi .slt v325 c0_i32_263
  let v330 : BitVec 1 := Scalar.xori v328 v329
  let c0_i32_261 : BitVec 32 := 0#32
  let v327 : BitVec 1 := Scalar.cmpi .ne v326 c0_i32_261
  let v331 : BitVec 1 := Scalar.andi v330 v327
  let v332 : BitVec 32 := Scalar.addi v326 v325
  let v333 : BitVec 32 := Scalar.select v331 v332 v326
  let c1_i32_268 : BitVec 32 := 1#32
  let v334 : BitVec 32 := Scalar.muli v333 c1_i32_268
  let v335 : BitVec 32 := Scalar.addi c0_i32_269 v334
  v335.toNat
def k0_dev13 (d0 : Dev nD) : Nat :=
  let c0_i32_314 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_285 : BitVec 32 := 1#32
  let v359 : BitVec 32 := Scalar.subi v2 c1_i32_285
  let c4_i32_286 : BitVec 32 := 4#32
  let c0_i32_287 : BitVec 32 := 0#32
  let v360 : BitVec 1 := Scalar.cmpi .eq c4_i32_286 c0_i32_287
  let c1_i32_288 : BitVec 32 := 1#32
  let v361 : BitVec 32 := Scalar.select v360 c1_i32_288 c4_i32_286
  let v362 : BitVec 32 := Scalar.remsi v359 v361
  let c0_i32_290 : BitVec 32 := 0#32
  let v364 : BitVec 1 := Scalar.cmpi .slt v362 c0_i32_290
  let c0_i32_291 : BitVec 32 := 0#32
  let v365 : BitVec 1 := Scalar.cmpi .slt v361 c0_i32_291
  let v366 : BitVec 1 := Scalar.xori v364 v365
  let c0_i32_289 : BitVec 32 := 0#32
  let v363 : BitVec 1 := Scalar.cmpi .ne v362 c0_i32_289
  let v367 : BitVec 1 := Scalar.andi v366 v363
  let v368 : BitVec 32 := Scalar.addi v362 v361
  let v369 : BitVec 32 := Scalar.select v367 v368 v362
  let c1_i32_313 : BitVec 32 := 1#32
  let v389 : BitVec 32 := Scalar.muli v369 c1_i32_313
  let v390 : BitVec 32 := Scalar.addi c0_i32_314 v389
  v390.toNat
def k0_dev14 (d0 : Dev nD) : Nat :=
  let c0_i32_348 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_319 : BitVec 32 := 3#32
  let v399 : BitVec 32 := Scalar.subi v2 c3_i32_319
  let c4_i32_320 : BitVec 32 := 4#32
  let c0_i32_321 : BitVec 32 := 0#32
  let v400 : BitVec 1 := Scalar.cmpi .eq c4_i32_320 c0_i32_321
  let c1_i32_322 : BitVec 32 := 1#32
  let v401 : BitVec 32 := Scalar.select v400 c1_i32_322 c4_i32_320
  let v402 : BitVec 32 := Scalar.remsi v399 v401
  let c0_i32_324 : BitVec 32 := 0#32
  let v404 : BitVec 1 := Scalar.cmpi .slt v402 c0_i32_324
  let c0_i32_325 : BitVec 32 := 0#32
  let v405 : BitVec 1 := Scalar.cmpi .slt v401 c0_i32_325
  let v406 : BitVec 1 := Scalar.xori v404 v405
  let c0_i32_323 : BitVec 32 := 0#32
  let v403 : BitVec 1 := Scalar.cmpi .ne v402 c0_i32_323
  let v407 : BitVec 1 := Scalar.andi v406 v403
  let v408 : BitVec 32 := Scalar.addi v402 v401
  let v409 : BitVec 32 := Scalar.select v407 v408 v402
  let c1_i32_347 : BitVec 32 := 1#32
  let v429 : BitVec 32 := Scalar.muli v409 c1_i32_347
  let v430 : BitVec 32 := Scalar.addi c0_i32_348 v429
  v430.toNat
def k0_dev15 (d0 : Dev nD) : Nat :=
  let c0_i32_382 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_353 : BitVec 32 := 2#32
  let v439 : BitVec 32 := Scalar.subi v2 c2_i32_353
  let c4_i32_354 : BitVec 32 := 4#32
  let c0_i32_355 : BitVec 32 := 0#32
  let v440 : BitVec 1 := Scalar.cmpi .eq c4_i32_354 c0_i32_355
  let c1_i32_356 : BitVec 32 := 1#32
  let v441 : BitVec 32 := Scalar.select v440 c1_i32_356 c4_i32_354
  let v442 : BitVec 32 := Scalar.remsi v439 v441
  let c0_i32_358 : BitVec 32 := 0#32
  let v444 : BitVec 1 := Scalar.cmpi .slt v442 c0_i32_358
  let c0_i32_359 : BitVec 32 := 0#32
  let v445 : BitVec 1 := Scalar.cmpi .slt v441 c0_i32_359
  let v446 : BitVec 1 := Scalar.xori v444 v445
  let c0_i32_357 : BitVec 32 := 0#32
  let v443 : BitVec 1 := Scalar.cmpi .ne v442 c0_i32_357
  let v447 : BitVec 1 := Scalar.andi v446 v443
  let v448 : BitVec 32 := Scalar.addi v442 v441
  let v449 : BitVec 32 := Scalar.select v447 v448 v442
  let c1_i32_381 : BitVec 32 := 1#32
  let v469 : BitVec 32 := Scalar.muli v449 c1_i32_381
  let v470 : BitVec 32 := Scalar.addi c0_i32_382 v469
  v470.toNat
def k0_dev16 (d0 : Dev nD) : Nat :=
  let c0_i32_434 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_422 : BitVec 32 := 1#32
  let v519 : BitVec 32 := Scalar.addi v2 c1_i32_422
  let c4_i32_423 : BitVec 32 := 4#32
  let c0_i32_424 : BitVec 32 := 0#32
  let v520 : BitVec 1 := Scalar.cmpi .eq c4_i32_423 c0_i32_424
  let c1_i32_425 : BitVec 32 := 1#32
  let v521 : BitVec 32 := Scalar.select v520 c1_i32_425 c4_i32_423
  let v522 : BitVec 32 := Scalar.remsi v519 v521
  let c0_i32_427 : BitVec 32 := 0#32
  let v524 : BitVec 1 := Scalar.cmpi .slt v522 c0_i32_427
  let c0_i32_428 : BitVec 32 := 0#32
  let v525 : BitVec 1 := Scalar.cmpi .slt v521 c0_i32_428
  let v526 : BitVec 1 := Scalar.xori v524 v525
  let c0_i32_426 : BitVec 32 := 0#32
  let v523 : BitVec 1 := Scalar.cmpi .ne v522 c0_i32_426
  let v527 : BitVec 1 := Scalar.andi v526 v523
  let v528 : BitVec 32 := Scalar.addi v522 v521
  let v529 : BitVec 32 := Scalar.select v527 v528 v522
  let c1_i32_433 : BitVec 32 := 1#32
  let v530 : BitVec 32 := Scalar.muli v529 c1_i32_433
  let v531 : BitVec 32 := Scalar.addi c0_i32_434 v530
  v531.toNat
def k0_dev17 (d0 : Dev nD) : Nat :=
  let c0_i32_451 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_439 : BitVec 32 := 3#32
  let v540 : BitVec 32 := Scalar.addi v2 c3_i32_439
  let c4_i32_440 : BitVec 32 := 4#32
  let c0_i32_441 : BitVec 32 := 0#32
  let v541 : BitVec 1 := Scalar.cmpi .eq c4_i32_440 c0_i32_441
  let c1_i32_442 : BitVec 32 := 1#32
  let v542 : BitVec 32 := Scalar.select v541 c1_i32_442 c4_i32_440
  let v543 : BitVec 32 := Scalar.remsi v540 v542
  let c0_i32_444 : BitVec 32 := 0#32
  let v545 : BitVec 1 := Scalar.cmpi .slt v543 c0_i32_444
  let c0_i32_445 : BitVec 32 := 0#32
  let v546 : BitVec 1 := Scalar.cmpi .slt v542 c0_i32_445
  let v547 : BitVec 1 := Scalar.xori v545 v546
  let c0_i32_443 : BitVec 32 := 0#32
  let v544 : BitVec 1 := Scalar.cmpi .ne v543 c0_i32_443
  let v548 : BitVec 1 := Scalar.andi v547 v544
  let v549 : BitVec 32 := Scalar.addi v543 v542
  let v550 : BitVec 32 := Scalar.select v548 v549 v543
  let c1_i32_450 : BitVec 32 := 1#32
  let v551 : BitVec 32 := Scalar.muli v550 c1_i32_450
  let v552 : BitVec 32 := Scalar.addi c0_i32_451 v551
  v552.toNat
def k0_dev18 (d0 : Dev nD) : Nat :=
  let c0_i32_468 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_456 : BitVec 32 := 2#32
  let v561 : BitVec 32 := Scalar.addi v2 c2_i32_456
  let c4_i32_457 : BitVec 32 := 4#32
  let c0_i32_458 : BitVec 32 := 0#32
  let v562 : BitVec 1 := Scalar.cmpi .eq c4_i32_457 c0_i32_458
  let c1_i32_459 : BitVec 32 := 1#32
  let v563 : BitVec 32 := Scalar.select v562 c1_i32_459 c4_i32_457
  let v564 : BitVec 32 := Scalar.remsi v561 v563
  let c0_i32_461 : BitVec 32 := 0#32
  let v566 : BitVec 1 := Scalar.cmpi .slt v564 c0_i32_461
  let c0_i32_462 : BitVec 32 := 0#32
  let v567 : BitVec 1 := Scalar.cmpi .slt v563 c0_i32_462
  let v568 : BitVec 1 := Scalar.xori v566 v567
  let c0_i32_460 : BitVec 32 := 0#32
  let v565 : BitVec 1 := Scalar.cmpi .ne v564 c0_i32_460
  let v569 : BitVec 1 := Scalar.andi v568 v565
  let v570 : BitVec 32 := Scalar.addi v564 v563
  let v571 : BitVec 32 := Scalar.select v569 v570 v564
  let c1_i32_467 : BitVec 32 := 1#32
  let v572 : BitVec 32 := Scalar.muli v571 c1_i32_467
  let v573 : BitVec 32 := Scalar.addi c0_i32_468 v572
  v573.toNat
def k0_dev19 (d0 : Dev nD) : Nat :=
  let c0_i32_512 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_484 : BitVec 32 := 1#32
  let v597 : BitVec 32 := Scalar.subi v2 c1_i32_484
  let c4_i32_485 : BitVec 32 := 4#32
  let c0_i32_486 : BitVec 32 := 0#32
  let v598 : BitVec 1 := Scalar.cmpi .eq c4_i32_485 c0_i32_486
  let c1_i32_487 : BitVec 32 := 1#32
  let v599 : BitVec 32 := Scalar.select v598 c1_i32_487 c4_i32_485
  let v600 : BitVec 32 := Scalar.remsi v597 v599
  let c0_i32_489 : BitVec 32 := 0#32
  let v602 : BitVec 1 := Scalar.cmpi .slt v600 c0_i32_489
  let c0_i32_490 : BitVec 32 := 0#32
  let v603 : BitVec 1 := Scalar.cmpi .slt v599 c0_i32_490
  let v604 : BitVec 1 := Scalar.xori v602 v603
  let c0_i32_488 : BitVec 32 := 0#32
  let v601 : BitVec 1 := Scalar.cmpi .ne v600 c0_i32_488
  let v605 : BitVec 1 := Scalar.andi v604 v601
  let v606 : BitVec 32 := Scalar.addi v600 v599
  let v607 : BitVec 32 := Scalar.select v605 v606 v600
  let c1_i32_511 : BitVec 32 := 1#32
  let v627 : BitVec 32 := Scalar.muli v607 c1_i32_511
  let v628 : BitVec 32 := Scalar.addi c0_i32_512 v627
  v628.toNat
def k0_dev20 (d0 : Dev nD) : Nat :=
  let c0_i32_546 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_517 : BitVec 32 := 3#32
  let v637 : BitVec 32 := Scalar.subi v2 c3_i32_517
  let c4_i32_518 : BitVec 32 := 4#32
  let c0_i32_519 : BitVec 32 := 0#32
  let v638 : BitVec 1 := Scalar.cmpi .eq c4_i32_518 c0_i32_519
  let c1_i32_520 : BitVec 32 := 1#32
  let v639 : BitVec 32 := Scalar.select v638 c1_i32_520 c4_i32_518
  let v640 : BitVec 32 := Scalar.remsi v637 v639
  let c0_i32_522 : BitVec 32 := 0#32
  let v642 : BitVec 1 := Scalar.cmpi .slt v640 c0_i32_522
  let c0_i32_523 : BitVec 32 := 0#32
  let v643 : BitVec 1 := Scalar.cmpi .slt v639 c0_i32_523
  let v644 : BitVec 1 := Scalar.xori v642 v643
  let c0_i32_521 : BitVec 32 := 0#32
  let v641 : BitVec 1 := Scalar.cmpi .ne v640 c0_i32_521
  let v645 : BitVec 1 := Scalar.andi v644 v641
  let v646 : BitVec 32 := Scalar.addi v640 v639
  let v647 : BitVec 32 := Scalar.select v645 v646 v640
  let c1_i32_545 : BitVec 32 := 1#32
  let v667 : BitVec 32 := Scalar.muli v647 c1_i32_545
  let v668 : BitVec 32 := Scalar.addi c0_i32_546 v667
  v668.toNat
def k0_dev21 (d0 : Dev nD) : Nat :=
  let c0_i32_580 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_551 : BitVec 32 := 2#32
  let v677 : BitVec 32 := Scalar.subi v2 c2_i32_551
  let c4_i32_552 : BitVec 32 := 4#32
  let c0_i32_553 : BitVec 32 := 0#32
  let v678 : BitVec 1 := Scalar.cmpi .eq c4_i32_552 c0_i32_553
  let c1_i32_554 : BitVec 32 := 1#32
  let v679 : BitVec 32 := Scalar.select v678 c1_i32_554 c4_i32_552
  let v680 : BitVec 32 := Scalar.remsi v677 v679
  let c0_i32_556 : BitVec 32 := 0#32
  let v682 : BitVec 1 := Scalar.cmpi .slt v680 c0_i32_556
  let c0_i32_557 : BitVec 32 := 0#32
  let v683 : BitVec 1 := Scalar.cmpi .slt v679 c0_i32_557
  let v684 : BitVec 1 := Scalar.xori v682 v683
  let c0_i32_555 : BitVec 32 := 0#32
  let v681 : BitVec 1 := Scalar.cmpi .ne v680 c0_i32_555
  let v685 : BitVec 1 := Scalar.andi v684 v681
  let v686 : BitVec 32 := Scalar.addi v680 v679
  let v687 : BitVec 32 := Scalar.select v685 v686 v680
  let c1_i32_579 : BitVec 32 := 1#32
  let v707 : BitVec 32 := Scalar.muli v687 c1_i32_579
  let v708 : BitVec 32 := Scalar.addi c0_i32_580 v707
  v708.toNat
abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S512x128 : Shape := ⟨2, ![512, 128]⟩
abbrev S128x1024 : Shape := ⟨2, ![128, 1024]⟩
abbrev S1024x128 : Shape := ⟨2, ![1024, 128]⟩
abbrev S512x1024 : Shape := ⟨2, ![512, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S1024x128, .f32⟩
  | .hbm, ⟨5, _⟩ => ⟨S1024x128, .f32⟩
  | .hbm, ⟨6, _⟩ => ⟨S1024x128, .f32⟩
  | .hbm, ⟨7, _⟩ => ⟨S512x1024, .f32⟩
  | .hbm, ⟨8, _⟩ => ⟨S_, .f32⟩
  | .hbm, ⟨9, _⟩ => ⟨S512x1024, .f32⟩
  | .hbm, ⟨10, _⟩ => ⟨S512x1024, .f32⟩
  | .hbm, ⟨11, _⟩ => ⟨S512x128, .f32⟩
  | .hbm, ⟨12, _⟩ => ⟨S512x1024, .f32⟩
  | .hbm, ⟨13, _⟩ => ⟨S_, .f32⟩
  | .hbm, ⟨14, _⟩ => ⟨S512x1024, .f32⟩
  | .hbm, ⟨15, _⟩ => ⟨S512x1024, .f32⟩
  | .hbm, ⟨16, _⟩ => ⟨S512x128, .f32⟩
  | .hbm, ⟨17, _⟩ => ⟨S512x1024, .f32⟩
  | .hbm, ⟨18, _⟩ => ⟨S_, .f32⟩
  | .hbm, ⟨19, _⟩ => ⟨S512x1024, .f32⟩
  | .hbm, ⟨20, _⟩ => ⟨S512x1024, .f32⟩
  | .hbm, ⟨21, _⟩ => ⟨S512x128, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.KernelIdeal.Program.lean ====
/-
# The kernel's body as one program over the layers

The printed body is straight-line code: an entry handshake, the exchange of the activations, then for each of the three
layers the same stretch of loads, waits, stores and copies on that layer's buffers, and at the end the waits for the
copies sent. Here it is written once per stretch, with the layer as an argument; `body_eq` says it is the printed body.
-/
module

public import proofs.«01_k».proof.Proof.Gen.KernelIdeal
public import proofs.«01_k».proof.Proof.Gen.KernelIdeal.Skeleton

@[expose] public section

noncomputable section

namespace Cert.KernelIdeal.Prf

open Cert.KernelIdeal Cert.KernelIdeal.Gen
open Idealize.ShloMosaic Idealize.ShloMosaic.TcCoe
open Idealize.SL Idealize.SL.Sem

variable {F : FTy → Type} [FloatOps F]

/-- A memref of a slot buffer: four slots of one block each, one per device. -/
abbrev SlotBuf : Type := Memref sig .tc .vmem S4x128x128 .f32

/-- The activations' buffer of a layer, -/
def xbM : Fin 3 → SlotBuf
  | 0 => Memref.whole cc0_scratch0 | 1 => Memref.whole cc0_scratch1 | 2 => Memref.whole cc0_scratch2
/-- the buffer in which a layer's partial results arrive, -/
def pbM : Fin 3 → SlotBuf
  | 0 => Memref.whole cc0_scratch3 | 1 => Memref.whole cc0_scratch4 | 2 => Memref.whole cc0_scratch5
/-- the buffer from which they are sent, -/
def psM : Fin 3 → SlotBuf
  | 0 => Memref.whole cc0_scratch6 | 1 => Memref.whole cc0_scratch7 | 2 => Memref.whole cc0_scratch8
/-- the layer's first weight, -/
def wiM : Fin 3 → Memref sig .tc .vmem S128x256 .f32
  | 0 => Memref.whole cc0_stg1_0 | 1 => Memref.whole cc0_stg3_0 | 2 => Memref.whole cc0_stg5_0
/-- and its second. -/
def woM : Fin 3 → Memref sig .tc .vmem S256x128 .f32
  | 0 => Memref.whole cc0_stg2_0 | 1 => Memref.whole cc0_stg4_0 | 2 => Memref.whole cc0_stg6_0

abbrev xM : Memref sig .tc .vmem S128x128 .f32 := Memref.whole cc0_stg0_0
abbrev oM : Memref sig .tc .vmem S128x128 .f32 := Memref.whole cc0_stg7_0

/-- A phase of the exchange: the layer, and whether it is the partial results that travel (`true`) or the activations. -/
abbrev Ph : Type := Fin 3 × Bool

/-- The number of a phase, in program order. -/
def phNo (p : Ph) : ℕ := 2 * p.1.val + (if p.2 then 1 else 0)
theorem phNo_lt (p : Ph) : phNo p < 6 := by revert p; decide

/-- The semaphore of the copies sent at a phase at distance `j + 1`, and of those received. -/
def sS (p : Ph) (j : Fin 3) : DmaSem sig := ⟨8 + (3 * phNo p + j.val), by have := phNo_lt p; have := j.isLt; show _ < 44; omega⟩
def rS (p : Ph) (j : Fin 3) : DmaSem sig := ⟨26 + (3 * phNo p + j.val), by have := phNo_lt p; have := j.isLt; show _ < 44; omega⟩

/-- The runtime's barrier semaphore. -/
abbrev barS : Sem sig := (SemArray.scalar (sig.barrier 0 rfl) : Sems sig S_).sem

/-- The rectangle of one slot, -/
abbrev slotR (off : Fin 3 → ℕ) (h : ∀ a, off a + S1x128x128.size a ≤ S4x128x128.size a) : Rect S4x128x128 := Rect.unit (s := S4x128x128) off S1x128x128.size h
/-- the slot of a buffer, -/
abbrev slotM (M : SlotBuf) (off : Fin 3 → ℕ) (h : ∀ a, off a + S1x128x128.size a ≤ S4x128x128.size a) : Memref sig .tc .vmem S1x128x128 .f32 :=
  M.slice (slotR off h) (fun _ => rfl)
/-- and the slot with its unit axis dropped, as the copies name it. -/
abbrev slotQ (M : SlotBuf) (off : Fin 3 → ℕ) (h : ∀ a, off a + S1x128x128.size a ≤ S4x128x128.size a) : Memref sig .tc .vmem S128x128 .f32 :=
  (slotM M off h).squeeze S128x128 squeezes_S1x128x128_S128x128

abbrev rW : Rect S128x256 := Rect.unit (s := S128x256) ![0, 0] S128x256.size inb_S128x256_S128x256_0_0
abbrev rV : Rect S256x128 := Rect.unit (s := S256x128) ![0, 0] S256x128.size inb_S256x128_S256x128_0_0
abbrev rX : Rect S128x128 := Rect.unit (s := S128x128) ![0, 0] S128x128.size inb_S128x128_S128x128_0_0
abbrev rB : Rect S4x128x128 := Rect.unit (s := S4x128x128) ![0, 0, 0] S4x128x128.size inb_S4x128x128_S4x128x128_0_0_0

theorem notSc (p : Ph) : ((if p.2 then pbM p.1 else xbM p.1) : SlotBuf).view.ref.isScScratch = false := by
  rcases p with ⟨l, b⟩; cases b <;> fin_cases l <;> rfl
theorem xb_notSc (l : Fin 3) : (xbM l).view.ref.isScScratch = false := notSc (l, false)
theorem pb_notSc (l : Fin 3) : (pbM l).view.ref.isScScratch = false := notSc (l, true)

abbrev Pg (α : Type) : Type 1 := Prog (TpuEff nD τ sig (Elt F) Λ₀ .tc) α

/-- Load a slot of a buffer, and store one. -/
def loadSlot (M : SlotBuf) (off : Fin 3 → ℕ) (h : ∀ a, off a + S1x128x128.size a ≤ S4x128x128.size a) : Pg (F := F) (Vec F S1x128x128 .f32) :=
  Prog.lift (.load M (slotR off h).toLoadRect (View.loadsAt_vmem h_S1x128x128))
def storeSlot (M : SlotBuf) (off : Fin 3 → ℕ) (h : ∀ a, off a + S1x128x128.size a ≤ S4x128x128.size a) (w : FVec F S1x128x128 .f32) : Pg (F := F) PUnit :=
  Prog.lift (.store M (slotR off h) w Finset.univ (View.stores_vmem_bits_univ h_S1x128x128 rfl) (.inl rfl))

/-- Start the copy of a block to the slot of device `d0` in the buffer `M` of device `n`, at phase `p` and distance `j + 1`. -/
def sendTo (src : Memref sig .tc .vmem S128x128 .f32) (hsrc : src.view.WordExact) (n : Dev nD) (M : SlotBuf) (hM : M.view.ref.isScScratch = false)
    (off : Fin 3 → ℕ) (h : ∀ a, off a + S1x128x128.size a ≤ S4x128x128.size a) (p : Ph) (j : Fin 3) : Pg (F := F) PUnit :=
  Prog.lift (.enqueueDma src (.remote (Dev.tc n) (slotQ M off h) (.dma (sS p j)) hM) (.dma (rS p j)) hsrc ((View.wordExact_bits rfl).reshape _ _)
    ⟨⟨rfl, Or.inl rfl⟩, trivial⟩)

/-- Wait for a copy of one block on a semaphore; the descriptor names a slot of the buffer `M`. -/
def waitSlot (q : DmaSem sig) (A : Memref sig .tc .vmem S128x128 .f32) (hA : A.view.WordExact) (M : SlotBuf) (off : Fin 3 → ℕ)
    (h : ∀ a, off a + S1x128x128.size a ≤ S4x128x128.size a) : Pg (F := F) PUnit :=
  Prog.lift (.waitDma2 q A (slotQ M off h) hA ((View.wordExact_bits rfl).reshape _ _))

theorem slotQ_exact (M : SlotBuf) (off : Fin 3 → ℕ) (h : ∀ a, off a + S1x128x128.size a ≤ S4x128x128.size a) : (slotQ M off h).view.WordExact :=
  (View.wordExact_bits rfl).reshape _ _

/-- The activations of layer `l` sent to the three other devices `n j`, from the block `src`. -/
def gather (l : Fin 3) (d0 : Dev nD) (src : Memref sig .tc .vmem S128x128 .f32) (hsrc : src.view.WordExact) (n : Fin 3 → Dev nD) : Pg (F := F) PUnit := do
  sendTo src hsrc (n 0) (xbM l) (xb_notSc l) (k0_off2 d0) (k0_off2_inb d0) (l, false) 0
  sendTo src hsrc (n 2) (xbM l) (xb_notSc l) (k0_off2 d0) (k0_off2_inb d0) (l, false) 2
  sendTo src hsrc (n 1) (xbM l) (xb_notSc l) (k0_off2 d0) (k0_off2_inb d0) (l, false) 1

/-- One activation's turn: it arrives at distance `j + 1` in the slot at `o` (the copies spell that slot `o'`), the layer is
    applied to it, and the partial result goes back to the device `n` it came from, at distance `3 - j`. -/
def chunk (l : Fin 3) (d0 : Dev nD) (w : Vec F S128x256 .f32) (wo : Vec F S256x128 .f32) (j j' : Fin 3) (n : Dev nD)
    (o : Fin 3 → ℕ) (h : ∀ a, o a + S1x128x128.size a ≤ S4x128x128.size a) (o' : Fin 3 → ℕ) (h' : ∀ a, o' a + S1x128x128.size a ≤ S4x128x128.size a) : Pg (F := F) PUnit := do
  waitSlot (rS (l, false) j) (slotQ (xbM l) (k0_off2 d0) (k0_off2_inb d0)) (slotQ_exact _ _ _) (xbM l) (k0_off2 d0) (k0_off2_inb d0)
  let x ← loadSlot (xbM l) o h
  let _ ← loadSlot (psM l) o h
  storeSlot (psM l) o h (k0_pay4 w wo x)
  sendTo (slotQ (psM l) o' h') (slotQ_exact _ _ _) n (pbM l) (pb_notSc l) (k0_off2 d0) (k0_off2_inb d0) (l, true) j'

/-- The wait for the partial result from distance `j + 1`. -/
def partialIn (l : Fin 3) (d0 : Dev nD) (j : Fin 3) : Pg (F := F) PUnit :=
  waitSlot (rS (l, true) j) (slotQ (pbM l) (k0_off2 d0) (k0_off2_inb d0)) (slotQ_exact _ _ _) (pbM l) (k0_off2 d0) (k0_off2_inb d0)

/-- A layer: the weights, the layer on the device's own activation, on the three that arrive, and the four partial results. -/
def layer (l : Fin 3) (d0 : Dev nD) (n : Fin 3 → Dev nD) : Pg (F := F) (Vec F S4x128x128 .f32) := do
  let w ← Prog.lift (.load (wiM l) rW.toLoadRect (View.loadsAt_vmem h_S128x256))
  let wo ← Prog.lift (.load (woM l) rV.toLoadRect (View.loadsAt_vmem h_S256x128))
  let x ← loadSlot (xbM l) (k0_off1 d0) (k0_off1_inb d0)
  let _ ← loadSlot (pbM l) (k0_off1 d0) (k0_off1_inb d0)
  storeSlot (pbM l) (k0_off1 d0) (k0_off1_inb d0) (k0_pay4 w wo x)
  chunk l d0 w wo 0 2 (n 2) (k0_off3 d0 1#32) (k0_off3_inb d0 0) (k0_off4 d0 1#32) (k0_off4_inb d0 0)
  chunk l d0 w wo 2 0 (n 0) (k0_off3 d0 3#32) (k0_off3_inb d0 2) (k0_off4 d0 3#32) (k0_off4_inb d0 2)
  chunk l d0 w wo 1 1 (n 1) (k0_off3 d0 2#32) (k0_off3_inb d0 1) (k0_off4 d0 2#32) (k0_off4_inb d0 1)
  partialIn l d0 0
  partialIn l d0 2
  partialIn l d0 1
  Prog.lift (.load (pbM l) rB.toLoadRect (View.loadsAt_vmem h_S4x128x128))

/-- The sum of the four partial results, stored as the next layer's own activation and sent to the others. -/
def next (l : Fin 3) (d0 : Dev nD) (n : Fin 3 → Dev nD) (v : Vec F S4x128x128 .f32) : Pg (F := F) PUnit := do
  let _ ← loadSlot (xbM l) (k0_off1 d0) (k0_off1_inb d0)
  storeSlot (xbM l) (k0_off1 d0) (k0_off1_inb d0) (k0_pay8 v)
  gather l d0 (slotQ (xbM l) (k0_off2 d0) (k0_off2_inb d0)) (slotQ_exact _ _ _) n

/-- The waits for the copies of a layer's activations sent, from the block `A`, -/
def gatherOut (l : Fin 3) (d0 : Dev nD) (A : Memref sig .tc .vmem S128x128 .f32) (hA : A.view.WordExact) : Pg (F := F) PUnit := do
  Prog.lift (.waitDma2 (sS (l, false) 0) (slotQ (xbM l) (k0_off2 d0) (k0_off2_inb d0)) A (slotQ_exact _ _ _) hA)
  Prog.lift (.waitDma2 (sS (l, false) 2) (slotQ (xbM l) (k0_off2 d0) (k0_off2_inb d0)) A (slotQ_exact _ _ _) hA)
  Prog.lift (.waitDma2 (sS (l, false) 1) (slotQ (xbM l) (k0_off2 d0) (k0_off2_inb d0)) A (slotQ_exact _ _ _) hA)

/-- and of its partial results. -/
def scatterOut (l : Fin 3) (d0 : Dev nD) : Pg (F := F) PUnit := do
  waitSlot (sS (l, true) 2) (slotQ (pbM l) (k0_off2 d0) (k0_off2_inb d0)) (slotQ_exact _ _ _) (psM l) (k0_off4 d0 1#32) (k0_off4_inb d0 0)
  waitSlot (sS (l, true) 0) (slotQ (pbM l) (k0_off2 d0) (k0_off2_inb d0)) (slotQ_exact _ _ _) (psM l) (k0_off4 d0 3#32) (k0_off4_inb d0 2)
  waitSlot (sS (l, true) 1) (slotQ (pbM l) (k0_off2 d0) (k0_off2_inb d0)) (slotQ_exact _ _ _) (psM l) (k0_off4 d0 2#32) (k0_off4_inb d0 1)

/-- The devices a phase's copies go to, as the printed body computes them: by distance. -/
abbrev dv (d0 : Dev nD) (a b c : ℕ) (ha : a < nD) (hb : b < nD) (hc : c < nD) : Fin 3 → Dev nD
  | 0 => ⟨a, ha⟩ | 1 => ⟨b, hb⟩ | 2 => ⟨c, hc⟩

theorem xM_exact : xM.view.WordExact := (Memref.isWhole_whole cc0_stg0_0).wordExact

/-- The whole body on device `d0`. -/
def rest (d0 : Dev nD) : Pg (F := F) PUnit := do
  semSignalWord (⟨k0_dev1 d0, k0_dev1_lt d0⟩ : Dev nD) barS 1#32
  semSignalWord (⟨k0_dev2 d0, k0_dev2_lt d0⟩ : Dev nD) barS 1#32
  semSignalWord (⟨k0_dev3 d0, k0_dev3_lt d0⟩ : Dev nD) barS 1#32
  semWaitWord barS 3#32
  let x ← Prog.lift (.load xM rX.toLoadRect (View.loadsAt_vmem h_S128x128))
  let _ ← loadSlot (xbM 0) (k0_off1 d0) (k0_off1_inb d0)
  storeSlot (xbM 0) (k0_off1 d0) (k0_off1_inb d0) (k0_pay1 x)
  gather 0 d0 xM xM_exact (dv d0 _ _ _ (k0_dev4_lt d0) (k0_dev6_lt d0) (k0_dev5_lt d0))
  let v ← layer 0 d0 (dv d0 _ _ _ (k0_dev8_lt d0) (k0_dev9_lt d0) (k0_dev7_lt d0))
  next 1 d0 (dv d0 _ _ _ (k0_dev10_lt d0) (k0_dev12_lt d0) (k0_dev11_lt d0)) v
  let v ← layer 1 d0 (dv d0 _ _ _ (k0_dev14_lt d0) (k0_dev15_lt d0) (k0_dev13_lt d0))
  next 2 d0 (dv d0 _ _ _ (k0_dev16_lt d0) (k0_dev18_lt d0) (k0_dev17_lt d0)) v
  let v ← layer 2 d0 (dv d0 _ _ _ (k0_dev20_lt d0) (k0_dev21_lt d0) (k0_dev19_lt d0))
  let _ ← Prog.lift (.load oM rX.toLoadRect (View.loadsAt_vmem h_S128x128))
  Prog.lift (.store oM rX (k0_pay23 v) Finset.univ (View.stores_vmem_bits_univ h_S128x128 rfl) (.inl rfl))
  gatherOut 0 d0 xM xM_exact
  scatterOut 0 d0
  gatherOut 1 d0 (slotQ (xbM 1) (k0_off2 d0) (k0_off2_inb d0)) (slotQ_exact _ _ _)
  scatterOut 1 d0
  gatherOut 2 d0 (slotQ (xbM 2) (k0_off2 d0) (k0_off2_inb d0)) (slotQ_exact _ _ _)
  scatterOut 2 d0

set_option maxRecDepth 1000000 in
set_option maxHeartbeats 4000000 in
/-- The printed body on the kernel's buffers is this one. -/
theorem body_eq : cc0_body (F := F) xM (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_stg6_0) (Memref.isWhole_whole _) oM (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _)
      (Memref.whole cc0_scratch4) (Memref.isWhole_whole _) (Memref.whole cc0_scratch5) (Memref.isWhole_whole _) (Memref.whole cc0_scratch6) (Memref.isWhole_whole _)
      (Memref.whole cc0_scratch7) (Memref.isWhole_whole _) (Memref.whole cc0_scratch8) (Memref.isWhole_whole _) cc0_scratch9 cc0_scratch10
    = (Prog.lift .deviceId).bind fun d0 => rest d0 := by
  rw [cc0_body_eq_skeleton]
  rfl

end Cert.KernelIdeal.Prf

end
-- ==== Proof.KernelIdeal.Base.lean ====
/-
# Devices, slots, cells, contents and the schedule

Device `c` exchanges at distance `j + 1` (`j : Fin 3`): it sends to `tgt j c` and receives from `frm j c`. A phase `(l, b)`
is layer `l`'s exchange of activations (`b = false`) or of partial results (`b = true`); every phase and distance has its own
send semaphore and its own receive semaphore. The schedule has one round: the barrier cell's three units, each handing over
the sender's landing slots; each receive cell's block, handing over the slot it landed in; each send cell's block, handing the
source back.
-/
module

public import proofs.«01_k».proof.Proof.KernelIdeal.Program
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.MemrefSat
public import Idealize.ShloMosaic.Lib.Tactic

@[expose] public section

noncomputable section

namespace Cert.KernelIdeal.Prf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Devices -/

set_option backward.proofsInPublic true in
/-- The device at distance `j + 1` ahead, -/
def tgt (j : Fin 3) (c : Dev nD) : Dev nD := ⟨(c.val + (j.val + 1)) % 4, Nat.mod_lt _ (by decide)⟩
set_option backward.proofsInPublic true in
/-- the distance that goes back, -/
def op (j : Fin 3) : Fin 3 := ⟨2 - j.val, by omega⟩
/-- and the device at distance `j + 1` behind. -/
def frm (j : Fin 3) (c : Dev nD) : Dev nD := tgt (op j) c

theorem op_op (j : Fin 3) : op (op j) = j := by revert j; decide
theorem frm_tgt (j : Fin 3) (c : Dev nD) : frm j (tgt j c) = c := by revert j c; decide
theorem tgt_frm (j : Fin 3) (c : Dev nD) : tgt j (frm j c) = c := by revert j c; decide
theorem tgt_op_tgt (j : Fin 3) (c : Dev nD) : tgt (op j) (tgt j c) = c := frm_tgt j c
theorem tgt_ne (j : Fin 3) (c : Dev nD) : tgt j c ≠ c := by revert j c; decide
theorem tgt_inj (j j' : Fin 3) (c : Dev nD) (h : tgt j c = tgt j' c) : j = j' := by revert j j' c; decide

/-- The devices as one sees them from `c`: itself and the three at distances 1, 2, 3. -/
def around (c : Dev nD) : Fin 4 → Dev nD
  | 0 => c | 1 => tgt 0 c | 2 => tgt 1 c | 3 => tgt 2 c
theorem around_bij (c : Dev nD) : Function.Bijective (around c) := by revert c; decide

/-- The printed chains of device numbers. -/
theorem dev1_eq : ∀ c : Dev nD, (⟨k0_dev1 c, k0_dev1_lt c⟩ : Dev nD) = tgt 0 c := by decide +kernel
theorem dev2_eq : ∀ c : Dev nD, (⟨k0_dev2 c, k0_dev2_lt c⟩ : Dev nD) = tgt 1 c := by decide +kernel
theorem dev3_eq : ∀ c : Dev nD, (⟨k0_dev3 c, k0_dev3_lt c⟩ : Dev nD) = tgt 2 c := by decide +kernel
theorem dvA0 : ∀ (c : Dev nD) (j : Fin 3), dv c _ _ _ (k0_dev4_lt c) (k0_dev6_lt c) (k0_dev5_lt c) j = tgt j c := by decide +kernel
theorem dvB0 : ∀ (c : Dev nD) (j : Fin 3), dv c _ _ _ (k0_dev8_lt c) (k0_dev9_lt c) (k0_dev7_lt c) j = tgt j c := by decide +kernel
theorem dvA1 : ∀ (c : Dev nD) (j : Fin 3), dv c _ _ _ (k0_dev10_lt c) (k0_dev12_lt c) (k0_dev11_lt c) j = tgt j c := by decide +kernel
theorem dvB1 : ∀ (c : Dev nD) (j : Fin 3), dv c _ _ _ (k0_dev14_lt c) (k0_dev15_lt c) (k0_dev13_lt c) j = tgt j c := by decide +kernel
theorem dvA2 : ∀ (c : Dev nD) (j : Fin 3), dv c _ _ _ (k0_dev16_lt c) (k0_dev18_lt c) (k0_dev17_lt c) j = tgt j c := by decide +kernel
theorem dvB2 : ∀ (c : Dev nD) (j : Fin 3), dv c _ _ _ (k0_dev20_lt c) (k0_dev21_lt c) (k0_dev19_lt c) j = tgt j c := by decide +kernel

/-! ## Slots -/

/-- The offset of device `s`'s slot, -/
def so (s : Dev nD) : Fin 3 → ℕ := ![s.val, 0, 0]
set_option backward.proofsInPublic true in
theorem so_inb (s : Dev nD) : ∀ a, so s a + S1x128x128.size a ≤ S4x128x128.size a := by revert s; decide
/-- and the slot. -/
abbrev slot (M : SlotBuf) (s : Dev nD) : Memref sig .tc .vmem S1x128x128 .f32 := slotM M (so s) (so_inb s)

theorem off1_so (c : Dev nD) : k0_off1 c = so c := k0_off1_eq c
theorem off2_so (c : Dev nD) : k0_off2 c = so c := k0_off2_eq c
theorem off3_so : ∀ (c : Dev nD) (j : Fin 3), k0_off3 c (BitVec.ofNat 32 (1 + j.val)) = so (frm j c) := by
  intro c j; funext a; revert a c j; decide +kernel
theorem off4_so : ∀ (c : Dev nD) (j : Fin 3), k0_off4 c (BitVec.ofNat 32 (1 + j.val)) = so (frm j c) := by
  intro c j; funext a; revert a c j; decide +kernel

/-- The buffer in which a phase's copies land. -/
abbrev dst (p : Ph) : SlotBuf := if p.2 then pbM p.1 else xbM p.1

/-- What one block's copy credits. -/
abbrev N : ℕ := xM.view.dmaCredit
theorem N_pos : 0 < N := View.dmaCredit_pos _ (by decide)
theorem N_xb (l : Fin 3) (o h) : (slotQ (xbM l) o h).view.dmaCredit = N := by fin_cases l <;> rfl
theorem N_pb (l : Fin 3) (o h) : (slotQ (pbM l) o h).view.dmaCredit = N := by fin_cases l <;> rfl
theorem N_ps (l : Fin 3) (o h) : (slotQ (psM l) o h).view.dmaCredit = N := by fin_cases l <;> rfl

/-! ## The algebra: the pipeline library's copy and the exchange's -/

abbrev Dut : Type := Fin 3
abbrev UB : Type := URounds (GSem nD τ sig) Dut
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Contents -/

variable (F) in
/-- What the devices hold at entry: their blocks of the activations and of the three layers' weights. -/
structure Inp where
  x : Dev nD → Vec F S128x128 .f32
  w : Fin 3 → Dev nD → Vec F S128x256 .f32
  v : Fin 3 → Dev nD → Vec F S256x128 .f32

variable (I : Inp F)

/-- The four partial results side by side as they lie in a buffer: device `s`'s in slot `s`. -/
def beside (P : Dev nD → Vec F S1x128x128 .f32) : Vec F S4x128x128 .f32 :=
  fun i => P (i 0) fun a => match a with | ⟨0, _⟩ => (⟨0, by decide⟩ : Fin 1) | ⟨1, _⟩ => i 1 | ⟨2, _⟩ => i 2

/-- Device `s`'s partial result of a layer on the activation `X`. -/
abbrev part (l : Fin 3) (s : Dev nD) (X : Vec F S1x128x128 .f32) : Vec F S1x128x128 .f32 := k0_pay4 (I.w l s) (I.v l s) X
/-- The sum, on the activation `X`, of the four devices' partial results. -/
abbrev total (l : Fin 3) (X : Vec F S1x128x128 .f32) : Vec F S1x128x128 .f32 := k0_pay8 (beside fun s => part I l s X)

/-- Device `c`'s own activation at layer `l`. -/
def act (c : Dev nD) : Fin 3 → Vec F S1x128x128 .f32
  | 0 => k0_pay1 (I.x c)
  | 1 => total I 0 (k0_pay1 (I.x c))
  | 2 => total I 1 (total I 0 (k0_pay1 (I.x c)))

/-- Device `s`'s partial result for device `d`, -/
abbrev pres (l : Fin 3) (s d : Dev nD) : Vec F S1x128x128 .f32 := part I l s (act I d l)
/-- and the four for device `d` side by side. -/
abbrev pall (l : Fin 3) (d : Dev nD) : Vec F S4x128x128 .f32 := beside fun s => pres I l s d

theorem act_one (c : Dev nD) : act I c 1 = k0_pay8 (pall I 0 c) := rfl
theorem act_two (c : Dev nD) : act I c 2 = k0_pay8 (pall I 1 c) := rfl

/-- What device `s` sends device `d` at a phase. -/
def sent : Ph → Dev nD → Dev nD → Vec F S1x128x128 .f32
  | (l, false), s, _ => act I s l
  | (l, true), s, d => pres I l s d

/-! ## Shares: the block a device gathers from is lent to its three copies, a fourth part kept for its own loads -/

def sh : Fin 3 → PosShare TreeShare
  | 0 => fullShare.left.left | 1 => fullShare.left.right | 2 => fullShare.right.left
abbrev kp : PosShare TreeShare := fullShare.right.right

/-! ## The cells -/

/-- The kernel's own semaphores: by side (`true`: receive), phase and distance; `none` is the barrier's. -/
abbrev OK : Type := Bool × Ph × Fin 3
abbrev CK : Type := Option OK
abbrev osem : OK → SemLoc sig := fun k => if k.1 then .dma (rS k.2.1 k.2.2) else .dma (sS k.2.1 k.2.2)
abbrev csem : CK → SemLoc sig := fun | none => .reg barS | some k => osem k
abbrev kcell (ck : Dev nD × CK) : GSem nD τ sig := ((ck.1 : Thread nD τ), csem ck.2)

abbrev barCell (c : Dev nD) : GSem nD τ sig := ((c : Thread nD τ), .reg barS)
abbrev sCell (p : Ph) (j : Fin 3) (c : Dev nD) : GSem nD τ sig := ((c : Thread nD τ), .dma (sS p j))
abbrev rCell (p : Ph) (j : Fin 3) (c : Dev nD) : GSem nD τ sig := ((c : Thread nD τ), .dma (rS p j))

/-- Which of the cells a semaphore is. -/
def dec : SemLoc sig → CK
  | .reg _ => none
  | .dma q =>
    if q.val < 8 then none
    else some (decide (26 ≤ q.val), (⟨((q.val - 8) % 18 / 3) / 2, by omega⟩, decide (((q.val - 8) % 18 / 3) % 2 = 1)), ⟨(q.val - 8) % 3, by omega⟩)

theorem dec_osem : ∀ k : OK, dec (osem k) = some k := by decide +kernel
theorem dec_s (p : Ph) (j : Fin 3) : dec (.dma (sS p j)) = some (false, p, j) := dec_osem (false, p, j)
theorem dec_r (p : Ph) (j : Fin 3) : dec (.dma (rS p j)) = some (true, p, j) := dec_osem (true, p, j)
theorem osem_inj : Function.Injective osem := fun a b h => Option.some.inj (by rw [← dec_osem a, ← dec_osem b, h])
theorem ne_bar (q : DmaSem sig) : (SemLoc.dma q : SemLoc sig) ≠ .reg barS := fun h => by cases h
theorem osem_ne_bar (k : OK) : osem k ≠ .reg barS := by rcases k with ⟨b, p, j⟩; cases b <;> exact fun h => by cases h

/-! ## The schedule -/

/-- What `tgt j c`'s signal hands device `c`: `tgt j c`'s landing slots for what `c` sends, one for each phase. -/
def barPay (j : Fin 3) (c : Dev nD) : sProp 𝕄 :=
  bigSep Finset.univ fun p : Ph => iprop(∃ Y, owns (tgt j c : Thread nD τ) (slot (dst p) c) fullShare Y)
/-- What a landing hands over: the slot it landed in, -/
def recvPay (p : Ph) (j : Fin 3) (c : Dev nD) : sProp 𝕄 :=
  owns (c : Thread nD τ) (slot (dst p) (frm j c)) fullShare (sent I p (frm j c) c)
/-- and what a sent copy hands back: its source. -/
def sendPay : Ph → Fin 3 → Dev nD → sProp 𝕄
  | (l, true), j, c => owns (c : Thread nD τ) (slot (psM l) (tgt j c)) fullShare (pres I l c (tgt j c))
  | (l, false), j, c => if l = 0 then owns (c : Thread nD τ) xM (sh j) (I.x c) else owns (c : Thread nD τ) (slot (xbM l) c) (sh j) (act I c l)

def xRd : Rounds.Schedule (GSem nD τ sig) Dut 𝕄 where
  duties g r := if r = 0 ∧ g.1.2 = .tc then (if g.2 = .reg barS then Finset.univ else if (dec g.2).isSome then {0} else ∅) else ∅
  unitless _ := False
  amount g _ _ := if g.2 = .reg barS then 1 else N
  payload g _ d :=
    if g.2 = .reg barS then barPay d g.1.1
    else match dec g.2 with
      | some (true, p, j) => recvPay I p j g.1.1
      | some (false, p, j) => sendPay I p j g.1.1
      | none => iprop(emp)
  amount_pos g _ _ _ := by
    by_cases h : g.2 = .reg barS
    · rw [if_pos h]; exact Nat.one_pos
    · rw [if_neg h]; exact N_pos

instance barPay_storable (j : Fin 3) (c : Dev nD) : BI.Storable (upEmb : UEmb _ 𝕄) (barPay (F := F) j c) := by unfold barPay; infer_instance
instance recvPay_storable (p : Ph) (j : Fin 3) (c : Dev nD) : BI.Storable (upEmb : UEmb _ 𝕄) (recvPay I p j c) := by unfold recvPay; infer_instance
instance sendPay_storable (p : Ph) (j : Fin 3) (c : Dev nD) : BI.Storable (upEmb : UEmb _ 𝕄) (sendPay I p j c) := by
  unfold sendPay; (repeat' split) <;> infer_instance

instance xRd_payload_storable (g : GSem nD τ sig) (r : ℕ) (d : Dut) : BI.Storable (upEmb : UEmb _ 𝕄) ((xRd I).payload g r d) := by
  unfold xRd; dsimp only; (repeat' split) <;> infer_instance

section Sched
variable (c : Dev nD) (p : Ph) (j : Fin 3)

theorem duties_bar : (xRd I).duties (barCell c) 0 = Finset.univ := by
  unfold xRd; dsimp only; rw [if_pos ⟨rfl, rfl⟩, if_pos rfl]
theorem duties_send : (xRd I).duties (sCell p j c) 0 = {0} := by
  unfold xRd; dsimp only; rw [if_pos ⟨rfl, rfl⟩, if_neg (ne_bar _), dec_s]; rfl
theorem duties_recv : (xRd I).duties (rCell p j c) 0 = {0} := by
  unfold xRd; dsimp only; rw [if_pos ⟨rfl, rfl⟩, if_neg (ne_bar _), dec_r]; rfl
theorem duties_later (g : GSem nD τ sig) : ∀ r, 1 ≤ r → (xRd I).duties g r = ∅ := fun r hr => by
  unfold xRd; dsimp only; rw [if_neg fun h => by omega]

theorem amount_bar (d : Dut) : (xRd I).amount (barCell c) 0 d = 1 := by unfold xRd; dsimp only; exact if_pos rfl
theorem amount_send (d : Dut) : (xRd I).amount (sCell p j c) 0 d = N := by unfold xRd; dsimp only; exact if_neg (ne_bar _)
theorem amount_recv (d : Dut) : (xRd I).amount (rCell p j c) 0 d = N := by unfold xRd; dsimp only; exact if_neg (ne_bar _)

theorem expect_bar : (xRd I).expect (barCell c) 0 = 3 := by
  unfold Schedule.expect Schedule.amountOf
  rw [duties_bar, Finset.sum_congr rfl fun d _ => amount_bar I c d, Finset.sum_const, Finset.card_univ, Fintype.card_fin, smul_eq_mul]
theorem expect_send : (xRd I).expect (sCell p j c) 0 = N := by
  unfold Schedule.expect Schedule.amountOf; rw [duties_send, Finset.sum_singleton, amount_send]
theorem expect_recv : (xRd I).expect (rCell p j c) 0 = N := by
  unfold Schedule.expect Schedule.amountOf; rw [duties_recv, Finset.sum_singleton, amount_recv]

theorem payload_bar (d : Dut) : (xRd I).payload (barCell c) 0 d = barPay d c := by unfold xRd; dsimp only; exact if_pos rfl
theorem payload_send (d : Dut) : (xRd I).payload (sCell p j c) 0 d = sendPay I p j c := by
  unfold xRd; dsimp only; rw [if_neg (ne_bar _), dec_s]
theorem payload_recv (d : Dut) : (xRd I).payload (rCell p j c) 0 d = recvPay I p j c := by
  unfold xRd; dsimp only; rw [if_neg (ne_bar _), dec_r]

theorem rest_bar : bigSep ((xRd I).duties (barCell c) 0 \ ∅) (fun d => (xRd I).payload (barCell c) 0 d)
    = bigSep Finset.univ fun d => barPay d c := by
  rw [Finset.sdiff_empty, duties_bar]; exact bigSep_congr fun d _ => payload_bar I c d
theorem rest_send : bigSep ((xRd I).duties (sCell p j c) 0 \ ∅) (fun d => (xRd I).payload (sCell p j c) 0 d) = sendPay I p j c := by
  rw [Finset.sdiff_empty, duties_send, bigSep_singleton, payload_send]
theorem rest_recv : bigSep ((xRd I).duties (rCell p j c) 0 \ ∅) (fun d => (xRd I).payload (rCell p j c) 0 d) = recvPay I p j c := by
  rw [Finset.sdiff_empty, duties_recv, bigSep_singleton, payload_recv]

end Sched

/-! ## What a device owes; the levels -/

/-- What is owed of the copies still to be sent, the next first: each peels the last summand. -/
def owe (c : Dev nD) : List (Ph × Fin 3) → CellTallies nD τ sig Unit
  | [] => 0
  | k :: L => owe c L + tallyAt (rCell k.1 k.2 (tgt k.2 c)) () N

/-- The copies in program order. -/
def sends : List (Ph × Fin 3) :=
  [((0, false), 0), ((0, false), 2), ((0, false), 1), ((0, true), 2), ((0, true), 0), ((0, true), 1),
   ((1, false), 0), ((1, false), 2), ((1, false), 1), ((1, true), 2), ((1, true), 0), ((1, true), 1),
   ((2, false), 0), ((2, false), 2), ((2, false), 1), ((2, true), 2), ((2, true), 0), ((2, true), 1)]

def O₂ (c : Dev nD) : CellTallies nD τ sig Unit := owe c sends + tallyAt (barCell (tgt 2 c)) () 1
def O₁ (c : Dev nD) : CellTallies nD τ sig Unit := O₂ c + tallyAt (barCell (tgt 1 c)) () 1
def O₀ (c : Dev nD) : CellTallies nD τ sig Unit := O₁ c + tallyAt (barCell (tgt 0 c)) () 1

def L (g : GSem nD τ sig) : Finset Unit := if g.1.2 = .tc then {()} else ∅
/-- Staging and send cells at 0, the barrier at 1, a phase's receive cells at its number and two. -/
def lv (g : GSem nD τ sig) (_ : Unit) : ℕ :=
  if g.2 = .reg barS then 1 else match dec g.2 with | some (true, p, _) => phNo p + 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_recv (p : Ph) (j : Fin 3) (c : Dev nD) (u : Unit) : lv (rCell p j c) u = phNo p + 2 := by
  unfold lv; rw [if_neg (ne_bar _), dec_r]
theorem lv_send (p : Ph) (j : Fin 3) (c : Dev nD) (u : Unit) : lv (sCell p j c) u = 0 := by
  unfold lv; rw [if_neg (ne_bar _), dec_s]
theorem lv_stage (q : DmaSem sig) (h : dec (.dma q) = none) (c : Dev nD) (u : Unit) : lv ((c : Thread nD τ), .dma q) u = 0 := by
  unfold lv; rw [if_neg (ne_bar _)]; dsimp only; rw [h]

theorem pos_tally {g g' : GSem nD τ sig} {u : Unit} {n : ℕ} (h : 0 < tallyAt (Ix := Unit) g () n g' u) : g' = g := by
  rw [tallyAt_apply] at h
  by_contra hn
  rw [if_neg (fun h' => hn h'.1)] at h
  exact Nat.lt_irrefl 0 h

theorem owe_pos {c : Dev nD} {g : GSem nD τ sig} {u : Unit} : ∀ {K : List (Ph × Fin 3)}, 0 < owe c K g u → ∃ k ∈ K, g = rCell k.1 k.2 (tgt k.2 c)
  | [], h => absurd h (Nat.lt_irrefl 0)
  | k :: K, h => by
    unfold owe at h
    rw [Pi.add_apply, Finsupp.add_apply] at h
    rcases Nat.eq_zero_or_pos (owe c K g u) with h0 | h0
    · rw [h0, Nat.zero_add] at h
      exact ⟨k, List.mem_cons_self, pos_tally h⟩
    · obtain ⟨k', hk', e⟩ := owe_pos h0
      exact ⟨k', List.mem_cons_of_mem _ hk', e⟩

/-- A wait at a level below every copy's that is still to be sent. -/
theorem mayWait_owe (c : Dev nD) (sm : SemLoc sig) (n : ℕ) (hn : lv ((c : Thread nD τ), sm) () ≤ n) (K : List (Ph × Fin 3)) (hK : ∀ k ∈ K, n < phNo k.1 + 2) :
    (levAts L lv : sProp 𝕄) ⊢ MayWait (c : Thread nD τ) sm () (owe c K) :=
  MayOwe.of_cut (L := L) (lev := lv) n (fun p hp => by rw [Finset.mem_singleton.mp hp, L_tc]; exact Finset.mem_singleton_self _)
    (fun g u hg => by obtain ⟨k, _, rfl⟩ := owe_pos hg; exact Finset.mem_singleton_self _)
    (fun p hp => by rw [Finset.mem_singleton.mp hp]; exact hn)
    (fun g u hg => by obtain ⟨k, hk, rfl⟩ := owe_pos hg; rw [lv_recv]; exact hK k hk)

theorem O₀_pos {c : Dev nD} {g : GSem nD τ sig} {u : Unit} (h : 0 < O₀ c g u) :
    (∃ k : Ph × Fin 3, g = rCell k.1 k.2 (tgt k.2 c)) ∨ ∃ j, g = barCell (tgt j c) := by
  unfold O₀ O₁ O₂ at h
  simp only [Pi.add_apply, Finsupp.add_apply] at h
  rcases Nat.eq_zero_or_pos (owe c sends g u) with h0 | h0
  · right
    rcases Nat.eq_zero_or_pos (tallyAt (Ix := Unit) (barCell (tgt 2 c)) () 1 g u) with h2 | h2
    · rcases Nat.eq_zero_or_pos (tallyAt (Ix := Unit) (barCell (tgt 1 c)) () 1 g u) with h1 | h1
      · rw [h0, h2, h1] at h; simp only [Nat.add_zero, Nat.zero_add] at h
        exact ⟨0, pos_tally h⟩
      · exact ⟨1, pos_tally h1⟩
    · exact ⟨2, pos_tally h2⟩
  · obtain ⟨k, _, e⟩ := owe_pos h0
    exact .inl ⟨k, e⟩

/-- A wait on a staging cell, at launch or at the end. -/
theorem mayWait_stage (c : Dev nD) (q : DmaSem sig) (hq : dec (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨j, rfl⟩ <;> exact Finset.mem_singleton_self _)
      (fun p hp => by rw [Finset.mem_singleton.mp hp, lv_stage q hq])
      (fun g u hg => by
        rcases O₀_pos hg with ⟨k, rfl⟩ | ⟨j, rfl⟩
        · rw [lv_recv]; omega
        · rw [lv_bar]; decide)
  · rw [MayWait_zero]; iintro -; iempintro

end Cert.KernelIdeal.Prf

end
-- ==== Proof.KernelIdeal.Slots.lean ====
/-
# A buffer as its four slots, and the loads, stores and copies of a slot
-/
module

public import proofs.«01_k».proof.Proof.KernelIdeal.Base

@[expose] public section

noncomputable section

namespace Cert.KernelIdeal.Prf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- A program's weakest precondition on device `c`. -/
abbrev WP (c : Dev nD) {α : Type} (p : Pg (F := F) α) (Q : α → sProp 𝕄) : sProp 𝕄 :=
  wp frame (wpE (defs₀ (F := F)) 𝒱₀ (c : Thread nD τ) none) Set.univ p Q

/-! ## Geometry -/

abbrev sR (s : Dev nD) : Rect S4x128x128 := slotR (so s) (so_inb s)

theorem sR_disj (s s' : Dev nD) (h : s ≠ s') : Disjoint (sR s).set (sR s').set := by
  refine Rect.unit_disjoint (s := S4x128x128) 0 ?_
  have : s.val ≠ s'.val := fun e => h (Fin.ext e)
  show s.val + 1 ≤ s'.val ∨ s'.val + 1 ≤ s.val
  omega

theorem sR_emb_zero (s : Dev nD) (j : (sR s).shape.Idx) : ((sR s).emb j) 0 = s := by
  apply Fin.ext
  have := (j 0).isLt
  show s.val + 1 * (j 0).val = s.val
  have h : (j 0).val < 1 := this
  omega

theorem sR_cov : (Finset.univ : Finset (Dev nD)).biUnion (fun s => (sR s).set) = Finset.univ := by
  refine Finset.eq_univ_iff_forall.mpr fun i => Finset.mem_biUnion.mpr ⟨i 0, Finset.mem_univ _, ?_⟩
  refine Rect.mem_set_unit.mpr fun a => ?_
  fin_cases a
  · exact ⟨Nat.le_refl _, Nat.lt_succ_self _⟩
  · exact ⟨Nat.zero_le _, by have := (i 1).isLt; show (i 1).val < 0 + 128; simpa using this⟩
  · exact ⟨Nat.zero_le _, by have := (i 2).isLt; show (i 2).val < 0 + 128; simpa using this⟩

theorem beside_emb (P : Dev nD → Vec F S1x128x128 .f32) (s : Dev nD) : (fun j => beside P ((sR s).emb j)) = P s := by
  funext j
  show P (((sR s).emb j) 0) _ = P s j
  rw [sR_emb_zero]
  congr 1
  funext a
  fin_cases a
  · exact Fin.ext (by have : (j 0).val < 1 := (j 0).isLt; show 0 = (j 0).val; omega)
  · exact Fin.ext (by show 0 + 1 * (j 1).val = (j 1).val; omega)
  · exact Fin.ext (by show 0 + 1 * (j 2).val = (j 2).val; omega)

/-! ## A buffer and its slots -/

/-- A slot at some contents, and a whole memref. -/
abbrev anyS (c : Dev nD) (M : SlotBuf) (s : Dev nD) : sProp 𝕄 := iprop(∃ Y, owns (c : Thread nD τ) (slot M s) fullShare Y)

theorem any_intro (c : Dev nD) (M : SlotBuf) (s : Dev nD) (X : Vec F S1x128x128 .f32) :
    (owns (c : Thread nD τ) (slot M s) fullShare X : sProp 𝕄) ⊢ anyS c M s := by
  iintro H; iexists X; iexact H

theorem split_any (c : Dev nD) (M : SlotBuf) :
    iprop(∃ X, owns (c : Thread nD τ) M fullShare X) ⊢ (bigSep Finset.univ fun s : Dev nD => anyS (F := F) c M s : sProp 𝕄) := by
  iintro ⟨%X, H⟩
  iapply (show (owns (c : Thread nD τ) M fullShare X : sProp 𝕄) ⊢ bigSep Finset.univ fun s : Dev nD => anyS c M s from
    (owns_rects (c : Thread nD τ) M fullShare sR (fun _ _ => rfl) sR_disj sR_cov X).trans
      (bigSep_mono fun s _ => any_intro c M s _))
  iexact H

theorem join_beside (c : Dev nD) (M : SlotBuf) (P : Dev nD → Vec F S1x128x128 .f32) :
    (bigSep Finset.univ fun s : Dev nD => owns (c : Thread nD τ) (slot M s) fullShare (P s) : sProp 𝕄) ⊢ owns (c : Thread nD τ) M fullShare (beside P) := by
  refine (Entails.of_eq ?_).trans (owns_of_rects (c : Thread nD τ) M fullShare sR (fun _ _ => rfl) sR_disj sR_cov (beside P))
  exact bigSep_congr fun s _ => by rw [beside_emb]

theorem join_any (c : Dev nD) (M : SlotBuf) :
    (bigSep Finset.univ fun s : Dev nD => anyS (F := F) c M s : sProp 𝕄) ⊢ iprop(∃ X, owns (c : Thread nD τ) M fullShare X) := by
  refine (Entails.of_eq (bigSep_congr fun s _ => ?_)).trans
    ((ownsSat_of_rects (c : Thread nD τ) M fullShare sR (fun _ _ => rfl) sR_disj sR_cov (Ψ := fun _ _ => True)).trans (ownsSat_any _ _ _))
  exact (BI.equiv_iff.mp ⟨(ownsSat_true _ _ _).1, (ownsSat_true _ _ _).2⟩).symm

/-- A conjunction over the devices, seen from `c`. -/
theorem bigSep_around (c : Dev nD) (Φ : Dev nD → sProp 𝕄) :
    bigSep Finset.univ Φ = iprop(Φ c ∗ Φ (tgt 0 c) ∗ Φ (tgt 1 c) ∗ Φ (tgt 2 c)) := by
  rw [bigSep_univ_eq_bigSepL [c, tgt 0 c, tgt 1 c, tgt 2 c] (by revert c; decide) (by revert c; decide), bigSepL_cons_cons, bigSepL_cons_cons, bigSepL_cons_cons, bigSepL_singleton]
  rfl

/-! ## Loads and stores -/

theorem wp_loadSlot (c : Dev nD) (M : SlotBuf) (s : Dev nD) {o : Fin 3 → ℕ} {h : ∀ a, o a + S1x128x128.size a ≤ S4x128x128.size a} (e : o = so s)
    (q : PosShare TreeShare) (X : Vec F S1x128x128 .f32) (Q : Vec F S1x128x128 .f32 → sProp 𝕄) :
    iprop(owns (c : Thread nD τ) (slot M s) q X ∗ (owns (c : Thread nD τ) (slot M s) q X -∗ Q X)) ⊢ WP c (loadSlot M o h) Q := by
  subst e
  unfold owns WP loadSlot Prog.lift
  iintro ⟨⟨%f, %hf, H⟩, HQ⟩
  iapply (wp_load_rect 𝒱₀ (c : Thread nD τ) none Set.univ (m := M) (r := sR s) (S := (slot M s).view.set) (f := f) (Finset.Subset.refl _)) $$ H
  iintro H
  rw [wp_ret]; imodintro
  rw [show (M.access (sR s)).read (Elt F) f = X from hf]
  iapply HQ
  iexists f; isplitr; · ipureintro; exact hf
  iexact H

theorem wp_storeSlot (c : Dev nD) (M : SlotBuf) (s : Dev nD) {o : Fin 3 → ℕ} {h : ∀ a, o a + S1x128x128.size a ≤ S4x128x128.size a} (e : o = so s)
    (Y w : Vec F S1x128x128 .f32) (Q : PUnit → sProp 𝕄) :
    iprop(owns (c : Thread nD τ) (slot M s) fullShare Y ∗ (owns (c : Thread nD τ) (slot M s) fullShare w -∗ Q ⟨⟩)) ⊢ WP c (storeSlot M o h w) Q := by
  subst e
  unfold owns WP storeSlot Prog.lift
  iintro ⟨⟨%f, %hf, H⟩, HQ⟩
  iapply (wp_store 𝒱₀ (c : Thread nD τ) none Set.univ (m := M) (r := sR s) (Mk := Finset.univ) (S := (slot M s).view.set) (f := f) (Finset.Subset.refl _)) $$ H
  iintro H
  rw [wp_ret]; imodintro
  iapply HQ
  iexists _; isplitr; swap; · iexact H
  ipureintro
  exact View.read_write_univ _ _

/-- Overwriting a slot whose contents do not matter, after the load of it that precedes every store. -/
theorem wp_overwrite (c : Dev nD) (M : SlotBuf) (s : Dev nD) {o : Fin 3 → ℕ} {h : ∀ a, o a + S1x128x128.size a ≤ S4x128x128.size a} (e : o = so s)
    (w : Vec F S1x128x128 .f32) (Q : PUnit → sProp 𝕄) :
    iprop(anyS c M s ∗ (owns (c : Thread nD τ) (slot M s) fullShare w -∗ Q ⟨⟩)) ⊢ WP c (loadSlot M o h >>= fun _ => storeSlot M o h w) Q := by
  unfold WP
  rw [wp_bind]
  iintro ⟨⟨%Y, H⟩, HQ⟩
  iapply (wp_loadSlot c M s e fullShare Y _)
  isplitl [H]; · iexact H
  iintro H
  iapply (wp_storeSlot c M s e Y w Q)
  isplitl [H]; · iexact H
  iexact HQ

end Cert.KernelIdeal.Prf

end
-- ==== Proof.KernelIdeal.Steps.lean ====
/-
# One signal, one copy, one wait

The rules for the exchange's own operations on a symbolic device, phase and distance. What a device needs of a copy before it
is sent, between its start and the wait for it, and of a landing it expects, each is one bundle.
-/
module

public import proofs.«01_k».proof.Proof.KernelIdeal.Slots

@[expose] public section

noncomputable section

namespace Cert.KernelIdeal.Prf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × CK → ℕ)

/-! ## What every device knows: all cells' invariants, that their round is reached, the levels -/

def records : sProp 𝕄 :=
  iprop((bigSep Finset.univ fun ck : Dev nD × CK => cellInv ER (xRd I) (K ck) (kcell ck)) ∗ bigSep Finset.univ fun ck : Dev nD × CK => reached ER (kcell ck) 0)
def env : sProp 𝕄 := iprop(records I K ∗ levAts L lv)

instance records_persistent : BI.Persistent (records I K) := by unfold records; infer_instance
instance env_persistent : BI.Persistent (env I K) := by unfold env; infer_instance

theorem env_inv (ck : Dev nD × CK) : env I K ⊢ cellInv ER (xRd I) (K ck) (kcell ck) := by
  have h : (bigSep Finset.univ fun ck : Dev nD × CK => (cellInv ER (xRd I) (K ck) (kcell ck) : sProp 𝕄)) ⊢ cellInv ER (xRd I) (K ck) (kcell ck) :=
    bigSep_elim (Finset.mem_univ ck)
  unfold env records
  iintro ⟨⟨H, -⟩, -⟩
  iapply h; iexact H
theorem env_rch (ck : Dev nD × CK) : env I K ⊢ reached ER (kcell ck) 0 := by
  have h : (bigSep Finset.univ fun ck : Dev nD × CK => (reached ER (kcell ck) 0 : sProp 𝕄)) ⊢ reached ER (kcell ck) 0 :=
    bigSep_elim (Finset.mem_univ ck)
  unfold env records
  iintro ⟨⟨-, H⟩, -⟩
  iapply h; iexact H
theorem env_lev : env I K ⊢ levAts L lv := by
  unfold env
  iintro ⟨-, H⟩; iexact H

/-- What device `c` owes, whatever it has waited for. -/
def ow (c : Dev nD) (O : CellTallies nD τ sig Unit) : sProp 𝕄 := iprop(∃ W, owes (c : Thread nD τ) O W)

/-- Before a copy at phase `p`, distance `j + 1`: the two duties it pays and the place at the send cell, -/
def sendTok (p : Ph) (j : Fin 3) (c : Dev nD) : sProp 𝕄 :=
  iprop((dutyTok ER (sCell p j c) 0 0 ∗ dutyTok ER (rCell p j (tgt j c)) 0 0) ∗ atPos ER (sCell p j c) 0 ∅ 0)
/-- and with the landing slot on the target. -/
def toSend (p : Ph) (j : Fin 3) (c : Dev nD) : sProp 𝕄 := iprop(sendTok p j c ∗ anyS (tgt j c) (dst p) c)
/-- After its start: the place and the credit to wait for it with. -/
def onWay (p : Ph) (j : Fin 3) (c : Dev nD) : sProp 𝕄 := iprop(atPos ER (sCell p j c) 0 ∅ 0 ∗ cred (tallyAt (sCell p j c) () N))
/-- A landing still expected. -/
def toCome (p : Ph) (j : Fin 3) (c : Dev nD) : sProp 𝕄 := iprop(atPos ER (rCell p j c) 0 ∅ 0 ∗ cred (tallyAt (rCell p j c) () N))

/-! ## The waits -/

/-- A wait for one block on one of the device's own cells, the cell closed after it. -/
theorem wp_await (c : Dev nD) (ok : OK) (q : DmaSem sig) (hq : osem ok = .dma q) (R : sProp 𝕄)
    (hx : (xRd I).expect (kcell (c, some ok)) 0 = N)
    (hR : bigSep ((xRd I).duties (kcell (c, some ok)) 0 \ ∅) (fun d => (xRd I).payload (kcell (c, some ok)) 0 d) = R)
    {A B : Memref sig .tc .vmem S128x128 .f32} {hA : A.view.WordExact} {hB : B.view.WordExact} (hN : B.view.dmaCredit = N)
    (S : List (Ph × Fin 3)) (n : ℕ) (hn : lv (kcell (c, some ok)) () ≤ n) (hS : ∀ k ∈ S, n < phNo k.1 + 2) (Q : PUnit → sProp 𝕄) :
    iprop(env I K ∗ (atPos ER (kcell (c, some ok)) 0 ∅ 0 ∗ cred (tallyAt (kcell (c, some ok)) () N)) ∗ ow c (owe c S)
        ∗ (ow c (owe c S) ∗ semVal (kcell (c, some ok)) 0 ∗ R -∗ Q ⟨⟩))
      ⊢ WP c (Prog.lift (.waitDma2 q A B hA hB)) Q := by
  unfold ow WP Prog.lift
  simp only [kcell, csem, hq] at hx hR hn ⊢
  iintro ⟨#He, ⟨Hat, Hc⟩, ⟨%W, HO⟩, HQ⟩
  ihave #HI := (show env I K ⊢ cellInv ER (xRd I) (K (c, some ok)) ((c : Thread nD τ), .dma q) from
    (env_inv I K (c, some ok)).trans (Entails.of_eq (by simp only [kcell, csem, hq]))) $$ He
  iapply (Rounds.wp_wait_rest_token 𝒱₀ ER (xRd I) (c : Thread nD τ) none (κ := K (c, some ok))
      (wpE_waitDma2_eq 𝒱₀ (c : Thread nD τ) none Set.univ) (Set.mem_univ _) () (O := owe c S) (W := W) (R := 0) (m := 0) (T := ∅)
      (by rw [Nat.zero_add, hx, hN])) $$ [Hc HO Hat]
  · isplitr; · iexact HI
    isplitl [Hc]; · rw [hN]; iexact Hc
    isplitl [HO]; · iexact HO
    isplitr; · iapply (mayWait_owe c (.dma q) n hn S hS); iapply (env_lev I K); iexact He
    iexact Hat
  iintro ⟨HO, Hat, -, Hpay⟩
  imod (Rounds.cell_close ER (xRd I) (Set.mem_univ (K (c, some ok))) (fun h => h) (R := 0 + 1) (duties_later I ((c : Thread nD τ), .dma q))) $$ [Hat] with Hz
  · isplitr; · iexact HI
    iexact Hat
  rw [wp_ret]; imodintro
  iapply HQ
  isplitl [HO]; · iexists _; iexact HO
  isplitl [Hz]; · iexact Hz
  rw [← hR]; iexact Hpay

/-- The wait for a landing: the slot it landed in. Every copy still owed is of a later phase. -/
theorem wp_recv (c : Dev nD) (p : Ph) (j : Fin 3) {A B : Memref sig .tc .vmem S128x128 .f32} {hA : A.view.WordExact} {hB : B.view.WordExact}
    (hN : B.view.dmaCredit = N) (S : List (Ph × Fin 3)) (hS : ∀ k ∈ S, phNo p < phNo k.1) (Q : PUnit → sProp 𝕄) :
    iprop(env I K ∗ toCome p j c ∗ ow c (owe c S)
        ∗ (ow c (owe c S) ∗ semVal (rCell p j c) 0 ∗ recvPay I p j c -∗ Q ⟨⟩))
      ⊢ WP c (Prog.lift (.waitDma2 (rS p j) A B hA hB)) Q :=
  wp_await I K c (true, p, j) (rS p j) rfl (recvPay I p j c) (expect_recv I c p j) (rest_recv I c p j) hN S (phNo p + 2)
    (le_of_eq (lv_recv p j c ())) (fun k hk => Nat.add_lt_add_right (hS k hk) 2) Q

/-- The wait for a sent copy, nothing owed any more: its source back. -/
theorem wp_sent (c : Dev nD) (p : Ph) (j : Fin 3) {A B : Memref sig .tc .vmem S128x128 .f32} {hA : A.view.WordExact} {hB : B.view.WordExact}
    (hN : B.view.dmaCredit = N) (Q : PUnit → sProp 𝕄) :
    iprop(env I K ∗ onWay p j c ∗ ow c (owe c [])
        ∗ (ow c (owe c []) ∗ semVal (sCell p j c) 0 ∗ sendPay I p j c -∗ Q ⟨⟩))
      ⊢ WP c (Prog.lift (.waitDma2 (sS p j) A B hA hB)) Q :=
  wp_await I K c (false, p, j) (sS p j) rfl (sendPay I p j c) (expect_send I c p j) (rest_send I c p j) hN [] 0
    (le_of_eq (lv_send p j c ())) (fun k hk => absurd hk List.not_mem_nil) Q

/-! ## The copies -/

theorem sendPay_x (j : Fin 3) (c : Dev nD) : sendPay I (0, false) j c = (owns (c : Thread nD τ) xM (sh j) (I.x c) : sProp 𝕄) := by
  exact if_pos (c := (0 : Fin 3) = 0) (e := owns (c : Thread nD τ) (slot (xbM 0) c) (sh j) (act I c 0)) rfl
theorem sendPay_act {l : Fin 3} (hl : l ≠ 0) (j : Fin 3) (c : Dev nD) :
    sendPay I (l, false) j c = (owns (c : Thread nD τ) (slot (xbM l) c) (sh j) (act I c l) : sProp 𝕄) := by
  exact if_neg hl
theorem sendPay_part (l j : Fin 3) (c : Dev nD) :
    sendPay I (l, true) j c = (owns (c : Thread nD τ) (slot (psM l) (tgt j c)) fullShare (pres I l c (tgt j c)) : sProp 𝕄) := rfl

/-- A slot's elements with the leading 1 dropped are the slot's. -/
theorem slotQ_pts (c d : Dev nD) (B : SlotBuf) {h : ∀ a, so d a + S1x128x128.size a ≤ S4x128x128.size a} (q : PosShare TreeShare)
    (f : Buf (Elt F) ((slot B d).view.loc (c : Thread nD τ))) :
    ((slotQ B (so d) h).view.loc (c : Thread nD τ) ↦[(slotQ B (so d) h).view.set]{q} f : sProp 𝕄)
      = ((slot B d).view.loc (c : Thread nD τ) ↦[(slot B d).view.set]{q} f) :=
  congrArg (fun T => ((slot B d).view.loc (c : Thread nD τ) ↦[T]{q} f : sProp 𝕄))
    (View.set_reshape (slot B d).view squeezes_S1x128x128_S128x128.numel_eq)

/-- The start of a copy from elements owned at contents `fs` to the target's slot. -/
theorem wp_copy_at (c n : Dev nD) (p : Ph) (j : Fin 3) (hn : n = tgt j c) {src : Memref sig .tc .vmem S128x128 .f32} {hsrc : src.view.WordExact}
    {M : SlotBuf} (hD : M = dst p) {hM : M.view.ref.isScScratch = false} {o : Fin 3 → ℕ} {h : ∀ a, o a + S1x128x128.size a ≤ S4x128x128.size a} (e : o = so c)
    (hN : (slotQ M o h).view.dmaCredit = N)
    (S : List (Ph × Fin 3)) (q : PosShare TreeShare) (fs : Buf (Elt F) (src.view.loc (c : Thread nD τ)))
    (hpay : (src.view.loc (c : Thread nD τ) ↦[src.view.set]{q} fs : sProp 𝕄) ⊢ sendPay I p j c)
    (hval : (fun x => src.view.read (Elt F) fs ((Shape.reshapeEquiv squeezes_S1x128x128_S128x128.numel_eq).symm x)) = sent I p c (tgt j c))
    (Q : PUnit → sProp 𝕄) :
    iprop(env I K ∗ (src.view.loc (c : Thread nD τ) ↦[src.view.set]{q} fs) ∗ toSend p j c ∗ ow c (owe c ((p, j) :: S))
        ∗ (ow c (owe c S) ∗ onWay p j c -∗ Q ⟨⟩))
      ⊢ WP c (sendTo src hsrc n M hM o h p j) Q := by
  subst hn e hD
  unfold ow WP sendTo Prog.lift toSend sendTok onWay anyS owns
  iintro ⟨#He, Hs, ⟨⟨⟨HtS, HtR⟩, Hat⟩, ⟨%Y, ⟨%fd, %hfd, Hd⟩⟩⟩, ⟨%W, HO⟩, HQ⟩
  iapply (Rounds.wp_send_pointsTo 𝒱₀ ER (xRd I) (c : Thread nD τ) none (κ₁ := K (c, some (false, p, j))) (κ₂ := K (tgt j c, some (true, p, j)))
    (r₁ := 0) (r₂ := 0) (d₁ := 0) (d₂ := 0) (fd := fd) (q := q) (fs := fs) (c' := (tgt j c : Thread nD τ)) (dst := slotQ (dst p) (so c) h) (sem := .dma (rS p j))
    (by rw [duties_send]; exact Finset.mem_singleton_self _) (by rw [duties_recv]; exact Finset.mem_singleton_self _)
    () () N hN (amount_send I c p j 0) (amount_recv I (tgt j c) p j 0) (owe c S) rfl (W := W)
    (by rw [payload_send]; exact hpay)
    (by
      rw [payload_recv]
      unfold recvPay
      rw [frm_tgt]
      refine (Entails.of_eq ((slotQ_pts (tgt j c) c (dst p) fullShare _).trans ?_)).trans ((owns_intro (tgt j c : Thread nD τ) (slot (dst p) c) fullShare
        ((slot (dst p) c).view.write (Elt F) fd (fun x => src.view.read (Elt F) fs ((Shape.reshapeEquiv squeezes_S1x128x128_S128x128.numel_eq).symm x)) Finset.univ)).trans
          (Entails.of_eq (congrArg _ ((View.read_write_univ (v := (slot (dst p) c).view) fd _).trans hval))))
      exact congrArg _ (View.write_reshape_univ (v := (slot (dst p) c).view) squeezes_S1x128x128_S128x128.numel_eq fd _))) $$ [Hs Hd HO HtS HtR]
  · isplitr; · iapply (env_inv I K (c, some (false, p, j))); iexact He
    isplitr; · iapply (env_inv I K (tgt j c, some (true, p, j))); iexact He
    isplitl [Hs]; · iexact Hs
    isplitl [Hd]; · iapply (Entails.of_eq (slotQ_pts (h := h) (tgt j c) c (dst p) fullShare fd).symm); iexact Hd
    isplitl [HO]; · iexact HO
    isplitl [HtS]; · iexact HtS
    isplitr; · iapply (env_rch I K (c, some (false, p, j))); iexact He
    isplitl [HtR]; · iexact HtR
    iapply (env_rch I K (tgt j c, some (true, p, j))); iexact He
  iintro ⟨Hc, HO⟩
  rw [wp_ret]; imodintro
  iapply HQ
  isplitl [HO]; · iexists W; iexact HO
  isplitl [Hat]; · iexact Hat
  iexact Hc

/-- A copy from a slot of one of the device's buffers. -/
theorem wp_copy_slot (c n : Dev nD) (p : Ph) (j : Fin 3) (hn : n = tgt j c) (B : SlotBuf) (s : Dev nD) {o' : Fin 3 → ℕ}
    {h' : ∀ a, o' a + S1x128x128.size a ≤ S4x128x128.size a} (e' : o' = so s) {hsrc : (slotQ B o' h').view.WordExact}
    {M : SlotBuf} (hD : M = dst p) {hM : M.view.ref.isScScratch = false} {o : Fin 3 → ℕ} {h : ∀ a, o a + S1x128x128.size a ≤ S4x128x128.size a} (e : o = so c)
    (hN : (slotQ M o h).view.dmaCredit = N) (S : List (Ph × Fin 3)) (q : PosShare TreeShare)
    (hpay : (owns (c : Thread nD τ) (slot B s) q (sent I p c (tgt j c)) : sProp 𝕄) ⊢ sendPay I p j c) (Q : PUnit → sProp 𝕄) :
    iprop(env I K ∗ owns (c : Thread nD τ) (slot B s) q (sent I p c (tgt j c)) ∗ toSend p j c ∗ ow c (owe c ((p, j) :: S))
        ∗ (ow c (owe c S) ∗ onWay p j c -∗ Q ⟨⟩))
      ⊢ WP c (sendTo (slotQ B o' h') hsrc n M hM o h p j) Q := by
  subst e'
  iintro ⟨#He, Hs, Hk⟩
  ihave Hs' := (show (owns (c : Thread nD τ) (slot B s) q (sent I p c (tgt j c)) : sProp 𝕄)
    ⊢ iprop(∃ f, ⌜(slot B s).view.read (Elt F) f = sent I p c (tgt j c)⌝ ∗ ((slot B s).view.loc (c : Thread nD τ) ↦[(slot B s).view.set]{q} f)) from .rfl) $$ Hs
  icases Hs' with ⟨%f, %hf, Hs⟩
  iapply (wp_copy_at I K c n p j hn (src := slotQ B (so s) h') hD e hN S q f
    ((Entails.of_eq (slotQ_pts c s B q f)).trans ((owns_intro (c : Thread nD τ) (slot B s) q f).trans ((Entails.of_eq (congrArg _ hf)).trans hpay)))
    (by
      refine Eq.trans (funext fun x => ?_) hf
      show (slot B s).view.read (Elt F) f (Shape.reshapeEquiv _ ((Shape.reshapeEquiv _).symm x)) = _
      rw [Equiv.apply_symm_apply]) Q)
  isplitr; · iexact He
  isplitl [Hs]; · iapply (Entails.of_eq (slotQ_pts (h := h') c s B q f).symm); iexact Hs
  iexact Hk

/-- A copy of the device's block of `x`. -/
theorem wp_copy_x (c n : Dev nD) (j : Fin 3) (hn : n = tgt j c) {o : Fin 3 → ℕ} {h : ∀ a, o a + S1x128x128.size a ≤ S4x128x128.size a} (e : o = so c)
    (S : List (Ph × Fin 3)) (Q : PUnit → sProp 𝕄) :
    iprop(env I K ∗ owns (c : Thread nD τ) xM (sh j) (I.x c) ∗ toSend (0, false) j c ∗ ow c (owe c (((0, false), j) :: S))
        ∗ (ow c (owe c S) ∗ onWay (0, false) j c -∗ Q ⟨⟩))
      ⊢ WP c (sendTo xM xM_exact n (xbM 0) (xb_notSc 0) o h (0, false) j) Q := by
  iintro ⟨#He, Hs, Hk⟩
  ihave Hs' := (show (owns (c : Thread nD τ) xM (sh j) (I.x c) : sProp 𝕄)
    ⊢ iprop(∃ f, ⌜xM.view.read (Elt F) f = I.x c⌝ ∗ (xM.view.loc (c : Thread nD τ) ↦[xM.view.set]{sh j} f)) from .rfl) $$ Hs
  icases Hs' with ⟨%f, %hf, Hs⟩
  iapply (wp_copy_at I K c n (0, false) j hn (src := xM) (M := xbM 0) rfl e (N_xb 0 _ _) S (sh j) f
    ((owns_intro (c : Thread nD τ) xM (sh j) f).trans (Entails.of_eq (by rw [hf, sendPay_x])))
    (by
      rw [hf]
      show _ = k0_pay1 (I.x c)
      unfold k0_pay1 shapeCast
      funext x
      show _ = I.x c (Shape.reshapeEquiv _ (Shape.reshapeEquiv _ x))
      rw [Shape.reshapeEquiv_self, Shape.reshapeEquiv_symm]) Q)
  isplitr; · iexact He
  isplitl [Hs]; · iexact Hs
  iexact Hk

end Cert.KernelIdeal.Prf

end
-- ==== Proof.KernelIdeal.Blocks.lean ====
/-
# The body's blocks

One activation's turn, a gather of activations, a layer, and the waits at the end, each with what it needs and what it leaves.
-/
module

public import proofs.«01_k».proof.Proof.KernelIdeal.Steps

@[expose] public section

noncomputable section

namespace Cert.KernelIdeal.Prf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × CK → ℕ)

theorem wp_seq (c : Dev nD) {α β : Type} (p : Pg (F := F) α) (k : α → Pg (F := F) β) (Q : β → sProp 𝕄) :
    WP c (p >>= k) Q = WP c p fun a => WP c (k a) Q := wp_bind ..

/-- A conjunction over the distances, in the order the body takes them. -/
theorem three (Φ : Fin 3 → sProp 𝕄) : bigSep Finset.univ Φ = iprop(Φ 0 ∗ Φ 2 ∗ Φ 1) := by
  rw [bigSep_univ_eq_bigSepL [0, 2, 1] (by decide) (by decide), bigSepL_cons_cons, bigSepL_cons_cons, bigSepL_singleton]
  rfl

/-! ## A whole staged block -/

theorem read_all {s : Shape} (M : Memref sig .tc .vmem s .f32) {o : Fin s.rank → ℕ} (e : o = fun _ => 0)
    (inb : ∀ a, o a + s.size a ≤ s.size a) (f : M.view.ty.Contents (Elt F)) :
    M.view.readAt (Elt F) (Rect.unit (s := s) o s.size inb).toLoadRect f = M.view.read (Elt F) f := by
  subst e
  funext i
  show M.view.read (Elt F) f _ = _
  congr 1
  funext a
  exact Fin.ext (by show 0 + 1 * (i a).val = (i a).val; omega)

theorem wp_loadAll (c : Dev nD) {s : Shape} (M : Memref sig .tc .vmem s .f32) {o : Fin s.rank → ℕ} (e : o = fun _ => 0)
    {inb : ∀ a, o a + s.size a ≤ s.size a} {hl : M.view.LoadsAt (Rect.unit (s := s) o s.size inb).toLoadRect}
    (q : PosShare TreeShare) (X : Vec F s .f32) (Q : Vec F s .f32 → sProp 𝕄) :
    iprop(owns (c : Thread nD τ) M q X ∗ (owns (c : Thread nD τ) M q X -∗ Q X))
      ⊢ WP c (Prog.lift (.load M (Rect.unit (s := s) o s.size inb).toLoadRect hl)) Q := by
  unfold owns WP Prog.lift
  iintro ⟨⟨%f, %hf, H⟩, HQ⟩
  iapply (wp_load 𝒱₀ (c : Thread nD τ) none Set.univ (m := M) (r := (Rect.unit (s := s) o s.size inb).toLoadRect) (S := M.view.set) (f := f)
    (M.view.setOn_subset_set _)) $$ H
  iintro H
  rw [wp_ret]; imodintro
  rw [read_all M e inb f, hf]
  iapply HQ
  iexists f; isplitr; · ipureintro; exact hf
  iexact H

theorem zero2 : (![0, 0] : Fin 2 → ℕ) = fun _ => 0 := by funext a; fin_cases a <;> rfl
theorem zero3 : (![0, 0, 0] : Fin 3 → ℕ) = fun _ => 0 := by funext a; fin_cases a <;> rfl

/-! ## Lending a block to its three copies -/

theorem regroup (A B C D : sProp 𝕄) : (iprop((A ∗ B) ∗ C ∗ D) : sProp 𝕄) = iprop((A ∗ C ∗ B) ∗ D) := by
  have h₁ : (iprop((A ∗ B) ∗ C ∗ D) : sProp 𝕄) ⊢ iprop((A ∗ C ∗ B) ∗ D) := by
    iintro ⟨⟨H0, H1⟩, H2, H3⟩
    isplitr [H3]; swap; · iexact H3
    isplitl [H0]; · iexact H0
    isplitl [H2]; · iexact H2
    iexact H1
  have h₂ : (iprop((A ∗ C ∗ B) ∗ D) : sProp 𝕄) ⊢ iprop((A ∗ B) ∗ C ∗ D) := by
    iintro ⟨⟨H0, H2, H1⟩, H3⟩
    isplitl [H0 H1]
    · isplitl [H0]; · iexact H0
      iexact H1
    isplitl [H2]; · iexact H2
    iexact H3
  exact BI.equiv_iff.mp ⟨h₁, h₂⟩

theorem lend (c : Dev nD) {s : Shape} (M : Memref sig .tc .vmem s .f32) (X : Vec F s .f32) :
    (owns (c : Thread nD τ) M fullShare X : sProp 𝕄)
      = iprop((bigSep Finset.univ fun j : Fin 3 => owns (c : Thread nD τ) M (sh j) X) ∗ owns (c : Thread nD τ) M kp X) := by
  have h (q : PosShare TreeShare) : (owns (c : Thread nD τ) M q X : sProp 𝕄) = iprop(owns (c : Thread nD τ) M q.left X ∗ owns (c : Thread nD τ) M q.right X) :=
    BI.equiv_iff.mp ⟨(owns_halves (c : Thread nD τ) M q X).1, (owns_halves (c : Thread nD τ) M q X).2⟩
  rw [three, h fullShare, h fullShare.left, h fullShare.right]
  exact regroup _ _ _ _

/-! ## A gather -/

theorem wp_gather (c : Dev nD) (l : Fin 3) (src : Memref sig .tc .vmem S128x128 .f32) (hsrc : src.view.WordExact) (n : Fin 3 → Dev nD)
    (SRC : Fin 3 → sProp 𝕄)
    (hsend : ∀ (j : Fin 3) (S : List (Ph × Fin 3)) (Q : PUnit → sProp 𝕄),
      iprop(env I K ∗ SRC j ∗ toSend (l, false) j c ∗ ow c (owe c (((l, false), j) :: S)) ∗ (ow c (owe c S) ∗ onWay (l, false) j c -∗ Q ⟨⟩))
        ⊢ WP c (sendTo src hsrc (n j) (xbM l) (xb_notSc l) (k0_off2 c) (k0_off2_inb c) (l, false) j) Q)
    (S : List (Ph × Fin 3)) (Q : PUnit → sProp 𝕄) :
    iprop(env I K ∗ bigSep Finset.univ SRC ∗ (bigSep Finset.univ fun j => toSend (l, false) j c)
        ∗ ow c (owe c (((l, false), 0) :: ((l, false), 2) :: ((l, false), 1) :: S))
        ∗ (ow c (owe c S) ∗ (bigSep Finset.univ fun j => onWay (l, false) j c) -∗ Q ⟨⟩))
      ⊢ WP c (gather l c src hsrc n) Q := by
  unfold gather
  rw [wp_seq, wp_seq, three, three, three]
  iintro ⟨#He, ⟨Hs0, Hs2, Hs1⟩, ⟨Ht0, Ht2, Ht1⟩, HO, HQ⟩
  iapply (hsend 0)
  isplitr; · iexact He
  isplitl [Hs0]; · iexact Hs0
  isplitl [Ht0]; · iexact Ht0
  isplitl [HO]; · iexact HO
  iintro ⟨HO, Hw0⟩
  iapply (hsend 2)
  isplitr; · iexact He
  isplitl [Hs2]; · iexact Hs2
  isplitl [Ht2]; · iexact Ht2
  isplitl [HO]; · iexact HO
  iintro ⟨HO, Hw2⟩
  iapply (hsend 1)
  isplitr; · iexact He
  isplitl [Hs1]; · iexact Hs1
  isplitl [Ht1]; · iexact Ht1
  isplitl [HO]; · iexact HO
  iintro ⟨HO, Hw1⟩
  iapply HQ
  isplitl [HO]; · iexact HO
  isplitl [Hw0]; · iexact Hw0
  isplitl [Hw2]; · iexact Hw2
  iexact Hw1

/-! ## One activation's turn -/

theorem wp_chunk (c n : Dev nD) (l j j' : Fin 3) (hj : j' = op j) (hn : n = tgt j' c) {o o' : Fin 3 → ℕ}
    {h : ∀ a, o a + S1x128x128.size a ≤ S4x128x128.size a} {h' : ∀ a, o' a + S1x128x128.size a ≤ S4x128x128.size a}
    (e : o = so (frm j c)) (e' : o' = so (frm j c)) (S : List (Ph × Fin 3)) (hS : ∀ k ∈ S, phNo (l, false) < phNo k.1) (Q : PUnit → sProp 𝕄) :
    iprop(env I K ∗ toCome (l, false) j c ∗ toSend (l, true) j' c ∗ anyS c (psM l) (tgt j' c) ∗ ow c (owe c (((l, true), j') :: S))
        ∗ (ow c (owe c S) ∗ onWay (l, true) j' c ∗ (anyS c (xbM l) (tgt j' c) ∗ semVal (rCell (l, false) j c) 0) -∗ Q ⟨⟩))
      ⊢ WP c (chunk l c (I.w l c) (I.v l c) j j' n o h o' h') Q := by
  subst hj
  unfold chunk
  rw [wp_seq]
  iintro ⟨#He, Hc, Ht, Hps, HO, HQ⟩
  unfold waitSlot
  iapply (wp_recv I K c (l, false) j (N_xb l _ _) (((l, true), op j) :: S) (fun k hk => by
    rcases List.mem_cons.mp hk with rfl | hk
    · show 2 * l.val + 0 < 2 * l.val + 1; omega
    · exact hS k hk))
  isplitr; · iexact He
  isplitl [Hc]; · iexact Hc
  isplitl [HO]; · iexact HO
  iintro ⟨HO, Hz, Hx⟩
  ihave Hx := (show recvPay I (l, false) j c ⊢ owns (c : Thread nD τ) (slot (xbM l) (frm j c)) fullShare (act I (frm j c) l) from .rfl) $$ Hx
  rw [wp_seq]
  iapply (wp_loadSlot c (xbM l) (frm j c) e fullShare (act I (frm j c) l))
  isplitl [Hx]; · iexact Hx
  iintro Hx
  icases Hps with ⟨%Y, Hps⟩
  rw [wp_seq]
  iapply (wp_loadSlot c (psM l) (frm j c) e fullShare Y)
  isplitl [Hps]; · iexact Hps
  iintro Hps
  rw [wp_seq]
  iapply (wp_storeSlot c (psM l) (frm j c) e Y _)
  isplitl [Hps]; · iexact Hps
  iintro Hps
  iapply (wp_copy_slot I K c n (l, true) (op j) hn (psM l) (frm j c) e' (M := pbM l) rfl (off2_so c) (N_pb l _ _) S fullShare
    (Entails.of_eq (sendPay_part I l (op j) c).symm))
  isplitr; · iexact He
  isplitl [Hps]; · iexact Hps
  isplitl [Ht]; · iexact Ht
  isplitl [HO]; · iexact HO
  iintro ⟨HO, Hw⟩
  iapply HQ
  isplitl [HO]; · iexact HO
  isplitl [Hw]; · iexact Hw
  isplitl [Hx]; · iapply (any_intro c (xbM l) (frm j c) _); iexact Hx
  iexact Hz

/-! ## The three partial results that arrive -/

theorem wp_partialIn (c : Dev nD) (l j : Fin 3) (S : List (Ph × Fin 3)) (hS : ∀ k ∈ S, phNo (l, true) < phNo k.1) (Q : PUnit → sProp 𝕄) :
    iprop(env I K ∗ toCome (l, true) j c ∗ ow c (owe c S)
        ∗ (ow c (owe c S) ∗ semVal (rCell (l, true) j c) 0 ∗ owns (c : Thread nD τ) (slot (pbM l) (frm j c)) fullShare (pres I l (frm j c) c) -∗ Q ⟨⟩))
      ⊢ WP c (partialIn l c j) Q :=
  wp_recv I K c (l, true) j (N_pb l _ _) S hS Q

/-! ## The waits at the end -/

theorem wp_gatherOut (c : Dev nD) (l : Fin 3) {A : Memref sig .tc .vmem S128x128 .f32} {hA : A.view.WordExact} (hN : A.view.dmaCredit = N) (Q : PUnit → sProp 𝕄) :
    iprop(env I K ∗ (bigSep Finset.univ fun j => onWay (l, false) j c) ∗ ow c (owe c [])
        ∗ (ow c (owe c []) ∗ (bigSep Finset.univ fun j => iprop(semVal (sCell (l, false) j c) 0 ∗ sendPay I (l, false) j c)) -∗ Q ⟨⟩))
      ⊢ WP c (gatherOut l c A hA) Q := by
  unfold gatherOut
  rw [wp_seq, wp_seq, three, three]
  iintro ⟨#He, ⟨H0, H2, H1⟩, HO, HQ⟩
  iapply (wp_sent I K c (l, false) 0 hN)
  isplitr; · iexact He
  isplitl [H0]; · iexact H0
  isplitl [HO]; · iexact HO
  iintro ⟨HO, H0⟩
  iapply (wp_sent I K c (l, false) 2 hN)
  isplitr; · iexact He
  isplitl [H2]; · iexact H2
  isplitl [HO]; · iexact HO
  iintro ⟨HO, H2⟩
  iapply (wp_sent I K c (l, false) 1 hN)
  isplitr; · iexact He
  isplitl [H1]; · iexact H1
  isplitl [HO]; · iexact HO
  iintro ⟨HO, H1⟩
  iapply HQ
  isplitl [HO]; · iexact HO
  isplitl [H0]; · iexact H0
  isplitl [H2]; · iexact H2
  iexact H1

theorem wp_scatterOut (c : Dev nD) (l : Fin 3) (Q : PUnit → sProp 𝕄) :
    iprop(env I K ∗ (bigSep Finset.univ fun j => onWay (l, true) j c) ∗ ow c (owe c [])
        ∗ (ow c (owe c []) ∗ (bigSep Finset.univ fun j => iprop(semVal (sCell (l, true) j c) 0 ∗ sendPay I (l, true) j c)) -∗ Q ⟨⟩))
      ⊢ WP c (scatterOut l c) Q := by
  unfold scatterOut
  rw [wp_seq, wp_seq, three, three]
  iintro ⟨#He, ⟨H0, H2, H1⟩, HO, HQ⟩
  iapply (wp_sent I K c (l, true) 2 (N_ps l _ _))
  isplitr; · iexact He
  isplitl [H2]; · iexact H2
  isplitl [HO]; · iexact HO
  iintro ⟨HO, H2⟩
  iapply (wp_sent I K c (l, true) 0 (N_ps l _ _))
  isplitr; · iexact He
  isplitl [H0]; · iexact H0
  isplitl [HO]; · iexact HO
  iintro ⟨HO, H0⟩
  iapply (wp_sent I K c (l, true) 1 (N_ps l _ _))
  isplitr; · iexact He
  isplitl [H1]; · iexact H1
  isplitl [HO]; · iexact HO
  iintro ⟨HO, H1⟩
  iapply HQ
  isplitl [HO]; · iexact HO
  isplitl [H0]; · iexact H0
  isplitl [H2]; · iexact H2
  iexact H1

/-! ## A layer -/

theorem wp_layer (c : Dev nD) (l : Fin 3) (n : Fin 3 → Dev nD) (hn : ∀ j, n j = tgt j c) (q : PosShare TreeShare)
    (S : List (Ph × Fin 3)) (hS : ∀ k ∈ S, phNo (l, true) < phNo k.1) (Q : Vec F S4x128x128 .f32 → sProp 𝕄) :
    iprop(env I K ∗ owns (c : Thread nD τ) (wiM l) fullShare (I.w l c) ∗ owns (c : Thread nD τ) (woM l) fullShare (I.v l c)
        ∗ owns (c : Thread nD τ) (slot (xbM l) c) q (act I c l) ∗ anyS c (pbM l) c
        ∗ (bigSep Finset.univ fun j => anyS c (psM l) (tgt j c)) ∗ (bigSep Finset.univ fun j => toCome (l, false) j c)
        ∗ (bigSep Finset.univ fun j => toSend (l, true) j c) ∗ (bigSep Finset.univ fun j => toCome (l, true) j c)
        ∗ ow c (owe c (((l, true), 2) :: ((l, true), 0) :: ((l, true), 1) :: S))
        ∗ (ow c (owe c S) ∗ owns (c : Thread nD τ) (wiM l) fullShare (I.w l c) ∗ owns (c : Thread nD τ) (woM l) fullShare (I.v l c)
            ∗ owns (c : Thread nD τ) (slot (xbM l) c) q (act I c l) ∗ owns (c : Thread nD τ) (pbM l) fullShare (pall I l c)
            ∗ (bigSep Finset.univ fun j => onWay (l, true) j c) ∗ (bigSep Finset.univ fun j => anyS c (xbM l) (tgt j c))
            ∗ (bigSep Finset.univ fun j => semVal (rCell (l, false) j c) 0) ∗ (bigSep Finset.univ fun j => semVal (rCell (l, true) j c) 0) -∗ Q (pall I l c)))
      ⊢ WP c (layer l c n) Q := by
  have hS' : ∀ k ∈ S, phNo (l, false) < phNo k.1 := fun k hk => Nat.lt_trans (show 2 * l.val + 0 < 2 * l.val + 1 by omega) (hS k hk)
  have hc (j : Fin 3) (T : List (Ph × Fin 3)) (hT : ∀ k ∈ T, phNo (l, false) < phNo k.1) : ∀ k ∈ ((l, true), j) :: T, phNo (l, false) < phNo k.1 := fun k hk => by
    rcases List.mem_cons.mp hk with rfl | hk
    · show 2 * l.val + 0 < 2 * l.val + 1; omega
    · exact hT k hk
  unfold layer
  rw [three, three, three, three, three, three, three, three]
  iintro ⟨#He, Hw, Hv, Hx, Hp, ⟨Hs0, Hs2, Hs1⟩, ⟨Hc0, Hc2, Hc1⟩, ⟨Ht0, Ht2, Ht1⟩, ⟨Hd0, Hd2, Hd1⟩, HO, HQ⟩
  rw [wp_seq]
  iapply (wp_loadAll c (wiM l) zero2 fullShare (I.w l c))
  isplitl [Hw]; · iexact Hw
  iintro Hw
  rw [wp_seq]
  iapply (wp_loadAll c (woM l) zero2 fullShare (I.v l c))
  isplitl [Hv]; · iexact Hv
  iintro Hv
  rw [wp_seq]
  iapply (wp_loadSlot c (xbM l) c (off1_so c) q (act I c l))
  isplitl [Hx]; · iexact Hx
  iintro Hx
  icases Hp with ⟨%Y, Hp⟩
  rw [wp_seq]
  iapply (wp_loadSlot c (pbM l) c (off1_so c) fullShare Y)
  isplitl [Hp]; · iexact Hp
  iintro Hp
  rw [wp_seq]
  iapply (wp_storeSlot c (pbM l) c (off1_so c) Y _)
  isplitl [Hp]; · iexact Hp
  iintro Hp
  rw [wp_seq]
  iapply (wp_chunk I K c (n 2) l 0 2 rfl (hn 2) (off3_so c 0) (off4_so c 0) (((l, true), 0) :: ((l, true), 1) :: S) (hc 0 _ (hc 1 _ hS')))
  isplitr; · iexact He
  isplitl [Hc0]; · iexact Hc0
  isplitl [Ht2]; · iexact Ht2
  isplitl [Hs2]; · iexact Hs2
  isplitl [HO]; · iexact HO
  iintro ⟨HO, Hw2, Hx2, Hz0⟩
  rw [wp_seq]
  iapply (wp_chunk I K c (n 0) l 2 0 rfl (hn 0) (off3_so c 2) (off4_so c 2) (((l, true), 1) :: S) (hc 1 _ hS'))
  isplitr; · iexact He
  isplitl [Hc2]; · iexact Hc2
  isplitl [Ht0]; · iexact Ht0
  isplitl [Hs0]; · iexact Hs0
  isplitl [HO]; · iexact HO
  iintro ⟨HO, Hw0, Hx0, Hz2⟩
  rw [wp_seq]
  iapply (wp_chunk I K c (n 1) l 1 1 rfl (hn 1) (off3_so c 1) (off4_so c 1) S hS')
  isplitr; · iexact He
  isplitl [Hc1]; · iexact Hc1
  isplitl [Ht1]; · iexact Ht1
  isplitl [Hs1]; · iexact Hs1
  isplitl [HO]; · iexact HO
  iintro ⟨HO, Hw1, Hx1, Hz1⟩
  rw [wp_seq]
  iapply (wp_partialIn I K c l 0 S hS)
  isplitr; · iexact He
  isplitl [Hd0]; · iexact Hd0
  isplitl [HO]; · iexact HO
  iintro ⟨HO, Hy0, Hp0⟩
  rw [wp_seq]
  iapply (wp_partialIn I K c l 2 S hS)
  isplitr; · iexact He
  isplitl [Hd2]; · iexact Hd2
  isplitl [HO]; · iexact HO
  iintro ⟨HO, Hy2, Hp2⟩
  rw [wp_seq]
  iapply (wp_partialIn I K c l 1 S hS)
  isplitr; · iexact He
  isplitl [Hd1]; · iexact Hd1
  isplitl [HO]; · iexact HO
  iintro ⟨HO, Hy1, Hp1⟩
  iapply (wp_loadAll c (pbM l) zero3 fullShare (pall I l c))
  isplitl [Hp Hp0 Hp1 Hp2]
  · iapply (join_beside c (pbM l) fun s => pres I l s c)
    rw [bigSep_around c]
    isplitl [Hp]; · iexact Hp
    isplitl [Hp2]; · iexact Hp2
    isplitl [Hp1]; · iexact Hp1
    iexact Hp0
  iintro Hp
  iapply HQ
  isplitl [HO]; · iexact HO
  isplitl [Hw]; · iexact Hw
  isplitl [Hv]; · iexact Hv
  isplitl [Hx]; · iexact Hx
  isplitl [Hp]; · iexact Hp
  isplitl [Hw0 Hw1 Hw2]
  · isplitl [Hw0]; · iexact Hw0
    isplitl [Hw2]; · iexact Hw2
    iexact Hw1
  isplitl [Hx0 Hx1 Hx2]
  · isplitl [Hx0]; · iexact Hx0
    isplitl [Hx2]; · iexact Hx2
    iexact Hx1
  isplitl [Hz0 Hz1 Hz2]
  · isplitl [Hz0]; · iexact Hz0
    isplitl [Hz2]; · iexact Hz2
    iexact Hz1
  isplitl [Hy0]; · iexact Hy0
  isplitl [Hy2]; · iexact Hy2
  iexact Hy1

/-! ## From one layer to the next -/

theorem wp_next (c : Dev nD) (l : Fin 3) (hl : l ≠ 0) (n : Fin 3 → Dev nD) (hn : ∀ j, n j = tgt j c) (v : Vec F S4x128x128 .f32)
    (hv : k0_pay8 v = act I c l) (S : List (Ph × Fin 3)) (Q : PUnit → sProp 𝕄) :
    iprop(env I K ∗ anyS c (xbM l) c ∗ (bigSep Finset.univ fun j => toSend (l, false) j c)
        ∗ ow c (owe c (((l, false), 0) :: ((l, false), 2) :: ((l, false), 1) :: S))
        ∗ (ow c (owe c S) ∗ (bigSep Finset.univ fun j => onWay (l, false) j c) ∗ owns (c : Thread nD τ) (slot (xbM l) c) kp (act I c l) -∗ Q ⟨⟩))
      ⊢ WP c (next l c n v) Q := by
  unfold next
  iintro ⟨#He, ⟨%Y, Hx⟩, Ht, HO, HQ⟩
  rw [wp_seq]
  iapply (wp_loadSlot c (xbM l) c (off1_so c) fullShare Y)
  isplitl [Hx]; · iexact Hx
  iintro Hx
  rw [wp_seq]
  iapply (wp_storeSlot c (xbM l) c (off1_so c) Y _)
  isplitl [Hx]; · iexact Hx
  iintro Hx
  ihave Hx := (show (owns (c : Thread nD τ) (slot (xbM l) c) fullShare (k0_pay8 v) : sProp 𝕄) ⊢ _ from
    Entails.of_eq ((congrArg _ hv).trans (lend c (slot (xbM l) c) (act I c l)))) $$ Hx
  icases Hx with ⟨Hs, Hk⟩
  iapply (wp_gather I K c l _ _ n (fun j => owns (c : Thread nD τ) (slot (xbM l) c) (sh j) (act I c l))
    (fun j T Q => wp_copy_slot I K c (n j) (l, false) j (hn j) (xbM l) c (off2_so c) (M := xbM l) rfl (off2_so c) (N_xb l _ _) T (sh j)
      (Entails.of_eq (sendPay_act I hl j c).symm) Q) S)
  isplitr; · iexact He
  isplitl [Hs]; · iexact Hs
  isplitl [Ht]; · iexact Ht
  isplitl [HO]; · iexact HO
  iintro ⟨HO, Hw⟩
  iapply HQ
  isplitl [HO]; · iexact HO
  isplitl [Hw]; · iexact Hw
  iexact Hk

end Cert.KernelIdeal.Prf

end
-- ==== Proof.KernelIdeal.Body.lean ====
/-
# The body, once, on a symbolic device

From its staged blocks, its scratch buffers and its part of the exchange, a device runs the whole body: it leaves its result in
the output's staging buffer, every block and buffer whole again, and every semaphore of its own at zero.
-/
module

public import proofs.«01_k».proof.Proof.KernelIdeal.Blocks

@[expose] public section

noncomputable section

namespace Cert.KernelIdeal.Prf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × CK → ℕ)

/-! ## Conjunctions over layers, phases and devices -/

theorem layers (Φ : Fin 3 → sProp 𝕄) : bigSep Finset.univ Φ = iprop(Φ 0 ∗ Φ 1 ∗ Φ 2) := by
  rw [bigSep_univ_eq_bigSepL [0, 1, 2] (by decide) (by decide), bigSepL_cons_cons, bigSepL_cons_cons, bigSepL_singleton]
  rfl

theorem sides (Φ : Bool → sProp 𝕄) : bigSep Finset.univ Φ = iprop(Φ false ∗ Φ true) := by
  rw [bigSep_univ_eq_bigSepL [false, true] (by decide) (by decide), bigSepL_cons_cons, bigSepL_singleton]
  rfl

theorem phases (Φ : Ph → sProp 𝕄) : bigSep Finset.univ Φ
    = iprop((Φ (0, false) ∗ Φ (0, true)) ∗ (Φ (1, false) ∗ Φ (1, true)) ∗ Φ (2, false) ∗ Φ (2, true)) := by
  rw [bigSep_univ_prod, layers, sides, sides, sides]

theorem own_others (c : Dev nD) (Φ : Dev nD → sProp 𝕄) :
    bigSep Finset.univ Φ = iprop(Φ c ∗ bigSep Finset.univ fun j : Fin 3 => Φ (tgt j c)) := by
  rw [bigSep_around c, layers]

theorem swap {A B : Type} [Fintype A] [Fintype B] [DecidableEq A] [DecidableEq B] (Φ : A → B → sProp 𝕄) :
    (bigSep Finset.univ fun a => bigSep Finset.univ fun b => Φ a b) = bigSep Finset.univ fun b => bigSep Finset.univ fun a => Φ a b := by
  rw [← bigSep_univ_prod (fun ab : A × B => Φ ab.1 ab.2), ← bigSep_univ_prod (fun ba : B × A => Φ ba.2 ba.1)]
  exact bigSep_univ_equiv (Equiv.prodComm B A) _

/-! ## The barrier -/

/-- The landing slots a device lends the device at distance `j + 1` for the whole kernel. -/
def lent (j : Fin 3) (c : Dev nD) : sProp 𝕄 := bigSep Finset.univ fun p : Ph => anyS c (dst p) (tgt j c)

theorem lent_eq (j : Fin 3) (c : Dev nD) : (lent j c : sProp 𝕄) = barPay (op j) (tgt j c) := by
  have h : tgt (op j) (tgt j c) = c := frm_tgt j c
  unfold lent barPay; rw [h]

theorem wp_sig (c n : Dev nD) (j : Fin 3) (hn : n = tgt j c) (O : CellTallies nD τ sig Unit) (Q : PUnit → sProp 𝕄) :
    iprop(env I K ∗ dutyTok ER (barCell (tgt j c)) 0 (op j) ∗ lent j c ∗ ow c (O + tallyAt (barCell (tgt j c)) () 1) ∗ (ow c O -∗ Q ⟨⟩))
      ⊢ WP c (semSignalWord n barS 1#32) Q := by
  subst hn
  rw [lent_eq]
  unfold ow WP semSignalWord
  iintro ⟨#He, Ht, Hl, ⟨%W, HO⟩, HQ⟩
  iapply (Rounds.wp_signal 𝒱₀ ER (xRd I) (c : Thread nD τ) none (dst := (tgt j c : Thread nD τ)) (κ := K (tgt j c, none))
      (d := op j) (by rw [duties_bar]; exact Finset.mem_univ _) ((amount_bar I (tgt j c) (op j)).trans (by decide)) () O rfl)
    $$ [HO Ht Hl]
  · isplitr; · iapply (env_inv I K (tgt j c, none)); iexact He
    isplitl [HO]; · iexact HO
    isplitl [Ht]; · iexact Ht
    isplitl [Hl]; · rw [payload_bar]; iexact Hl
    iapply (env_rch I K (tgt j c, none)); iexact He
  iintro HO
  rw [wp_ret]; imodintro
  iapply HQ
  iexists W; iexact HO

theorem wp_bar (c : Dev nD) (Q : PUnit → sProp 𝕄) :
    iprop(env I K ∗ (atPos ER (barCell c) 0 ∅ 0 ∗ cred (tallyAt (barCell c) () 3)) ∗ ow c (owe c sends)
        ∗ (ow c (owe c sends) ∗ semVal (barCell c) 0 ∗ (bigSep Finset.univ fun j => barPay j c) -∗ Q ⟨⟩))
      ⊢ WP c (semWaitWord barS 3#32) Q := by
  unfold ow WP semWaitWord
  iintro ⟨#He, ⟨Hat, Hc⟩, ⟨%W, HO⟩, HQ⟩
  iapply (Rounds.wp_wait_rest_token 𝒱₀ ER (xRd I) (c : Thread nD τ) none (κ := K (c, none))
      (wpE_semWait_eq 𝒱₀ (c : Thread nD τ) none Set.univ) (Set.mem_univ _) () (O := owe c sends) (W := W) (R := 0) (m := 0) (T := ∅)
      (by rw [expect_bar]; decide)) $$ [Hc HO Hat]
  · isplitr; · iapply (env_inv I K (c, none)); iexact He
    isplitl [Hc]; · iexact Hc
    isplitl [HO]; · iexact HO
    isplitr
    · iapply (mayWait_owe c (.reg barS) 1 (le_of_eq (lv_bar c ())) sends (fun k _ => Nat.lt_of_lt_of_le (by decide) (Nat.le_add_left 2 _)))
      iapply (env_lev I K); iexact He
    iexact Hat
  iintro ⟨HO, Hat, -, Hpay⟩
  imod (Rounds.cell_close ER (xRd I) (Set.mem_univ (K (c, none))) (fun h => h) (R := 0 + 1) (duties_later I (barCell c))) $$ [Hat] with Hz
  · isplitr; · iapply (env_inv I K (c, none)); iexact He
    iexact Hat
  rw [wp_ret]; imodintro
  iapply HQ
  isplitl [HO]; · iexists _; iexact HO
  isplitl [Hz]; · iexact Hz
  rw [← rest_bar I c]; iexact Hpay

/-! ## Splitting the buffers, and the slots that come back -/

/-- A scratch buffer at some contents. -/
abbrev anyB (c : Dev nD) (M : SlotBuf) : sProp 𝕄 := iprop(∃ X, owns (c : Thread nD τ) M fullShare X)

theorem any_B (c : Dev nD) (M : SlotBuf) (X : Vec F S4x128x128 .f32) : (owns (c : Thread nD τ) M fullShare X : sProp 𝕄) ⊢ anyB c M := by
  iintro H; iexists X; iexact H

theorem split_buf (c : Dev nD) (M : SlotBuf) : (anyB c M : sProp 𝕄) ⊢ iprop(anyS c M c ∗ bigSep Finset.univ fun j : Fin 3 => anyS c M (tgt j c)) :=
  (split_any c M).trans (Entails.of_eq (own_others c _))
theorem join_buf (c : Dev nD) (M : SlotBuf) : (iprop(anyS c M c ∗ bigSep Finset.univ fun j : Fin 3 => anyS c M (tgt j c)) : sProp 𝕄) ⊢ anyB c M :=
  (Entails.of_eq (own_others c (fun s => anyS c M s)).symm).trans (join_any c M)

/-- The landing buffers: the device's own slots, and those it lends. -/
theorem split_landing (c : Dev nD) :
    (bigSep Finset.univ fun p : Ph => anyB c (dst p) : sProp 𝕄)
      ⊢ iprop((bigSep Finset.univ fun p : Ph => anyS c (dst p) c) ∗ bigSep Finset.univ fun j : Fin 3 => lent j c) := by
  have h : (bigSep Finset.univ fun p : Ph => iprop(anyS c (dst p) c ∗ bigSep Finset.univ fun j : Fin 3 => anyS c (dst p) (tgt j c)) : sProp 𝕄)
      = iprop((bigSep Finset.univ fun p : Ph => anyS c (dst p) c) ∗ bigSep Finset.univ fun j : Fin 3 => lent j c) := by
    rw [bigSep_sep', swap]; rfl
  rw [← h]
  exact bigSep_mono fun p _ => split_buf c (dst p)

/-- What the barrier brings, with the tokens: all that the copies need. -/
theorem ready (c : Dev nD) :
    iprop((bigSep Finset.univ fun p : Ph => bigSep Finset.univ fun j : Fin 3 => sendTok p j c) ∗ bigSep Finset.univ fun j : Fin 3 => barPay j c)
      ⊢ (bigSep Finset.univ fun p : Ph => bigSep Finset.univ fun j : Fin 3 => toSend p j c : sProp 𝕄) := by
  have h : (bigSep Finset.univ fun p : Ph => bigSep Finset.univ fun j : Fin 3 => toSend p j c : sProp 𝕄)
      = iprop((bigSep Finset.univ fun p : Ph => bigSep Finset.univ fun j : Fin 3 => sendTok p j c) ∗ bigSep Finset.univ fun j : Fin 3 => barPay j c) := by
    unfold barPay toSend
    rw [swap (fun (j : Fin 3) (p : Ph) => anyS (tgt j c) (dst p) c), ← bigSep_sep']
    exact bigSep_congr fun p _ => bigSep_sep' _ _ _
  exact Entails.of_eq h.symm

/-- A layer's own activation slot back from its copies, and the buffer whole. -/
theorem xb_back (c : Dev nD) {l : Fin 3} (hl : l ≠ 0) :
    iprop((bigSep Finset.univ fun j => iprop(semVal (sCell (l, false) j c) 0 ∗ sendPay I (l, false) j c))
        ∗ owns (c : Thread nD τ) (slot (xbM l) c) kp (act I c l) ∗ bigSep Finset.univ fun j : Fin 3 => anyS c (xbM l) (tgt j c))
      ⊢ (iprop(anyB c (xbM l) ∗ bigSep Finset.univ fun j => semVal (sCell (l, false) j c) 0) : sProp 𝕄) := by
  rw [bigSep_sep', bigSep_congr fun j _ => sendPay_act I hl j c]
  iintro ⟨⟨Hz, Hs⟩, Hk, Ho⟩
  isplitr [Hz]; swap; · iexact Hz
  iapply (join_buf c (xbM l))
  isplitl [Hs Hk]
  · iapply (any_intro c (xbM l) c (act I c l))
    iapply (Entails.of_eq (lend c (slot (xbM l) c) (act I c l)).symm)
    isplitl [Hs]; · iexact Hs
    iexact Hk
  iexact Ho

/-- The device's block of `x` back from its copies. -/
theorem x_back (c : Dev nD) :
    iprop((bigSep Finset.univ fun j => iprop(semVal (sCell (0, false) j c) 0 ∗ sendPay I (0, false) j c)) ∗ owns (c : Thread nD τ) xM kp (I.x c))
      ⊢ (iprop(owns (c : Thread nD τ) xM fullShare (I.x c) ∗ bigSep Finset.univ fun j => semVal (sCell (0, false) j c) 0) : sProp 𝕄) := by
  rw [bigSep_sep', bigSep_congr fun j _ => sendPay_x I j c]
  iintro ⟨⟨Hz, Hs⟩, Hk⟩
  isplitr [Hz]; swap; · iexact Hz
  iapply (Entails.of_eq (lend c xM (I.x c)).symm)
  isplitl [Hs]; · iexact Hs
  iexact Hk

/-- The buffer of partial results sent, whole. -/
theorem ps_back (c : Dev nD) (l : Fin 3) :
    iprop((bigSep Finset.univ fun j => iprop(semVal (sCell (l, true) j c) 0 ∗ sendPay I (l, true) j c)) ∗ anyS c (psM l) c)
      ⊢ (iprop(anyB c (psM l) ∗ bigSep Finset.univ fun j => semVal (sCell (l, true) j c) 0) : sProp 𝕄) := by
  have h : (bigSep Finset.univ fun j : Fin 3 => sendPay I (l, true) j c : sProp 𝕄) ⊢ bigSep Finset.univ fun j : Fin 3 => anyS c (psM l) (tgt j c) :=
    bigSep_mono fun j _ => any_intro c (psM l) (tgt j c) _
  rw [bigSep_sep']
  iintro ⟨⟨Hz, Hs⟩, Ho⟩
  isplitr [Hz]; swap; · iexact Hz
  iapply (join_buf c (psM l))
  isplitl [Ho]; · iexact Ho
  iapply h; iexact Hs

/-! ## The store of the result -/

theorem wp_storeAll (c : Dev nD) {s : Shape} (M : Memref sig .tc .vmem s .f32) {o : Fin s.rank → ℕ} (e : o = fun _ => 0)
    {inb : ∀ a, o a + s.size a ≤ s.size a} {hx : (M.access (Rect.unit (s := s) o s.size inb)).Stores Finset.univ} {hm}
    (Y w : Vec F s .f32) (Q : PUnit → sProp 𝕄) :
    iprop(owns (c : Thread nD τ) M fullShare Y ∗ (owns (c : Thread nD τ) M fullShare w -∗ Q ⟨⟩))
      ⊢ WP c (Prog.lift (.store M (Rect.unit (s := s) o s.size inb) w Finset.univ hx hm)) Q := by
  unfold owns WP Prog.lift
  iintro ⟨⟨%f, %hf, H⟩, HQ⟩
  iapply (wp_store 𝒱₀ (c : Thread nD τ) none Set.univ (m := M) (r := Rect.unit (s := s) o s.size inb) (Mk := Finset.univ) (S := M.view.set) (f := f)
    ((View.setOn_subset_set _ _).trans (by rw [View.set_slice]; exact M.view.setOn_subset_set _))) $$ H
  iintro H
  rw [wp_ret]; imodintro
  iapply HQ
  iexists _; isplitr; swap; · iexact H
  ipureintro
  rw [← read_all M e inb, View.readAt_rect]
  exact View.read_write_univ _ _

/-! ## The whole body -/

/-- What a device holds of the exchange when it starts. -/
def kit (c : Dev nD) : sProp 𝕄 :=
  iprop((bigSep Finset.univ fun j : Fin 3 => dutyTok ER (barCell (tgt j c)) 0 (op j))
    ∗ (atPos ER (barCell c) 0 ∅ 0 ∗ cred (tallyAt (barCell c) () 3))
    ∗ (bigSep Finset.univ fun p : Ph => bigSep Finset.univ fun j : Fin 3 => sendTok p j c)
    ∗ bigSep Finset.univ fun p : Ph => bigSep Finset.univ fun j : Fin 3 => toCome p j c)

/-- Its staged weights, -/
def weights (c : Dev nD) : sProp 𝕄 :=
  bigSep Finset.univ fun l : Fin 3 => iprop(owns (c : Thread nD τ) (wiM l) fullShare (I.w l c) ∗ owns (c : Thread nD τ) (woM l) fullShare (I.v l c))
/-- its scratch buffers, -/
def bufs (c : Dev nD) : sProp 𝕄 :=
  iprop((bigSep Finset.univ fun p : Ph => anyB c (dst p)) ∗ bigSep Finset.univ fun l : Fin 3 => anyB c (psM l))
/-- and all its semaphores at zero. -/
def zeros (c : Dev nD) : sProp 𝕄 :=
  iprop(semVal (barCell c) 0 ∗ (bigSep Finset.univ fun p : Ph => bigSep Finset.univ fun j : Fin 3 => semVal (sCell p j c) 0)
    ∗ bigSep Finset.univ fun p : Ph => bigSep Finset.univ fun j : Fin 3 => semVal (rCell p j c) 0)

/-- The device's result. -/
def res (c : Dev nD) : Vec F S128x128 .f32 := k0_pay23 (pall I 2 c)

theorem wp_rest (c : Dev nD) (Q : PUnit → sProp 𝕄) :
    iprop(env I K ∗ kit c ∗ ow c (O₀ c) ∗ owns (c : Thread nD τ) xM fullShare (I.x c) ∗ weights I c
        ∗ (∃ Y, owns (c : Thread nD τ) oM fullShare Y) ∗ bufs c
        ∗ (ow c (owe c []) ∗ owns (c : Thread nD τ) xM fullShare (I.x c) ∗ weights I c ∗ owns (c : Thread nD τ) oM fullShare (res I c) ∗ bufs c ∗ zeros c -∗ Q ⟨⟩))
      ⊢ WP c (rest c) Q := by
  have hps : (bigSep Finset.univ fun l : Fin 3 => anyB c (psM l) : sProp 𝕄)
      ⊢ bigSep Finset.univ fun l : Fin 3 => iprop(anyS c (psM l) c ∗ bigSep Finset.univ fun j : Fin 3 => anyS c (psM l) (tgt j c)) :=
    bigSep_mono fun l _ => split_buf c (psM l)
  unfold kit bufs
  iintro ⟨#He, ⟨Hb, Hbar, Hst, Hco⟩, HO, Hx, Hw, ⟨%Y₀, Ho⟩, ⟨Hland, Hps⟩, HQ⟩
  ihave Hps := hps $$ Hps
  ihave Hl := (split_landing c) $$ Hland
  icases Hl with ⟨Hown, Hl⟩
  ihave Hb := (Entails.of_eq (layers _)) $$ Hb
  ihave Hl := (Entails.of_eq (layers _)) $$ Hl
  icases Hb with ⟨Hb0, Hb1, Hb2⟩
  icases Hl with ⟨Hl0, Hl1, Hl2⟩
  unfold rest
  rw [wp_seq]
  iapply (wp_sig I K c _ 0 (dev1_eq c) (O₁ c))
  isplitr; · iexact He
  isplitl [Hb0]; · iexact Hb0
  isplitl [Hl0]; · iexact Hl0
  isplitl [HO]; · iexact HO
  iintro HO
  rw [wp_seq]
  iapply (wp_sig I K c _ 1 (dev2_eq c) (O₂ c))
  isplitr; · iexact He
  isplitl [Hb1]; · iexact Hb1
  isplitl [Hl1]; · iexact Hl1
  isplitl [HO]; · iexact HO
  iintro HO
  rw [wp_seq]
  iapply (wp_sig I K c _ 2 (dev3_eq c) (owe c sends))
  isplitr; · iexact He
  isplitl [Hb2]; · iexact Hb2
  isplitl [Hl2]; · iexact Hl2
  isplitl [HO]; · iexact HO
  iintro HO
  rw [wp_seq]
  iapply (wp_bar I K c)
  isplitr; · iexact He
  isplitl [Hbar]; · iexact Hbar
  isplitl [HO]; · iexact HO
  iintro ⟨HO, Hzb, Hpay⟩
  ihave Hse := (ready c) $$ [Hst Hpay]
  · isplitl [Hst]; · iexact Hst
    iexact Hpay
  unfold weights
  ihave Hse := (Entails.of_eq (phases _)) $$ Hse
  ihave Hco := (Entails.of_eq (phases _)) $$ Hco
  ihave Hown := (Entails.of_eq (phases _)) $$ Hown
  ihave Hps := (Entails.of_eq (layers _)) $$ Hps
  ihave Hw := (Entails.of_eq (layers _)) $$ Hw
  icases Hse with ⟨⟨Hs0f, Hs0t⟩, ⟨Hs1f, Hs1t⟩, Hs2f, Hs2t⟩
  icases Hco with ⟨⟨Hc0f, Hc0t⟩, ⟨Hc1f, Hc1t⟩, Hc2f, Hc2t⟩
  icases Hown with ⟨⟨⟨%Y₁, Hx0⟩, Hp0⟩, ⟨Hx1, Hp1⟩, Hx2, Hp2⟩
  icases Hps with ⟨⟨Hq0, Hr0⟩, ⟨Hq1, Hr1⟩, Hq2, Hr2⟩
  icases Hw with ⟨⟨Hw0, Hv0⟩, ⟨Hw1, Hv1⟩, Hw2, Hv2⟩
  -- the activation of the first layer
  rw [wp_seq]
  iapply (wp_loadAll c xM zero2 fullShare (I.x c))
  isplitl [Hx]; · iexact Hx
  iintro Hx
  rw [wp_seq]
  iapply (wp_loadSlot c (xbM 0) c (off1_so c) fullShare Y₁)
  isplitl [Hx0]; · iexact Hx0
  iintro Hx0
  rw [wp_seq]
  iapply (wp_storeSlot c (xbM 0) c (off1_so c) Y₁ _)
  isplitl [Hx0]; · iexact Hx0
  iintro Hx0
  ihave Hx := (show (owns (c : Thread nD τ) xM fullShare (I.x c) : sProp 𝕄) ⊢ _ from Entails.of_eq (lend c xM (I.x c))) $$ Hx
  icases Hx with ⟨Hxs, Hxk⟩
  rw [wp_seq]
  iapply (wp_gather I K c 0 xM xM_exact _ (fun j => owns (c : Thread nD τ) xM (sh j) (I.x c))
    (fun j T Q => wp_copy_x I K c _ j (dvA0 c j) (off2_so c) T Q) (sends.drop 3))
  isplitr; · iexact He
  isplitl [Hxs]; · iexact Hxs
  isplitl [Hs0f]; · iexact Hs0f
  isplitl [HO]; · iexact HO
  iintro ⟨HO, Ho0f⟩
  -- the three layers
  rw [wp_seq]
  iapply (wp_layer I K c 0 _ (dvB0 c) fullShare (sends.drop 6) (by decide))
  isplitr; · iexact He
  isplitl [Hw0]; · iexact Hw0
  isplitl [Hv0]; · iexact Hv0
  isplitl [Hx0]; · iexact Hx0
  isplitl [Hp0]; · iexact Hp0
  isplitl [Hr0]; · iexact Hr0
  isplitl [Hc0f]; · iexact Hc0f
  isplitl [Hs0t]; · iexact Hs0t
  isplitl [Hc0t]; · iexact Hc0t
  isplitl [HO]; · iexact HO
  iintro ⟨HO, Hw0, Hv0, Hx0, Hp0, Ho0t, Hy0, Hz0f, Hz0t⟩
  rw [wp_seq]
  iapply (wp_next I K c 1 (by decide) _ (dvA1 c) (pall I 0 c) rfl (sends.drop 9))
  isplitr; · iexact He
  isplitl [Hx1]; · iexact Hx1
  isplitl [Hs1f]; · iexact Hs1f
  isplitl [HO]; · iexact HO
  iintro ⟨HO, Ho1f, Hx1⟩
  rw [wp_seq]
  iapply (wp_layer I K c 1 _ (dvB1 c) kp (sends.drop 12) (by decide))
  isplitr; · iexact He
  isplitl [Hw1]; · iexact Hw1
  isplitl [Hv1]; · iexact Hv1
  isplitl [Hx1]; · iexact Hx1
  isplitl [Hp1]; · iexact Hp1
  isplitl [Hr1]; · iexact Hr1
  isplitl [Hc1f]; · iexact Hc1f
  isplitl [Hs1t]; · iexact Hs1t
  isplitl [Hc1t]; · iexact Hc1t
  isplitl [HO]; · iexact HO
  iintro ⟨HO, Hw1, Hv1, Hx1, Hp1, Ho1t, Hy1, Hz1f, Hz1t⟩
  rw [wp_seq]
  iapply (wp_next I K c 2 (by decide) _ (dvA2 c) (pall I 1 c) rfl (sends.drop 15))
  isplitr; · iexact He
  isplitl [Hx2]; · iexact Hx2
  isplitl [Hs2f]; · iexact Hs2f
  isplitl [HO]; · iexact HO
  iintro ⟨HO, Ho2f, Hx2⟩
  rw [wp_seq]
  iapply (wp_layer I K c 2 _ (dvB2 c) kp (sends.drop 18) (by decide))
  isplitr; · iexact He
  isplitl [Hw2]; · iexact Hw2
  isplitl [Hv2]; · iexact Hv2
  isplitl [Hx2]; · iexact Hx2
  isplitl [Hp2]; · iexact Hp2
  isplitl [Hr2]; · iexact Hr2
  isplitl [Hc2f]; · iexact Hc2f
  isplitl [Hs2t]; · iexact Hs2t
  isplitl [Hc2t]; · iexact Hc2t
  isplitl [HO]; · iexact HO
  iintro ⟨HO, Hw2, Hv2, Hx2, Hp2, Ho2t, Hy2, Hz2f, Hz2t⟩
  -- the result
  rw [wp_seq]
  iapply (wp_loadAll c oM zero2 fullShare Y₀)
  isplitl [Ho]; · iexact Ho
  iintro Ho
  rw [wp_seq]
  iapply (wp_storeAll c oM zero2 Y₀ _)
  isplitl [Ho]; · iexact Ho
  iintro Ho
  -- the copies sent come home
  rw [wp_seq]
  iapply (wp_gatherOut I K c 0 (A := xM) rfl)
  isplitr; · iexact He
  isplitl [Ho0f]; · iexact Ho0f
  isplitl [HO]; · iexact HO
  iintro ⟨HO, Ho0f⟩
  rw [wp_seq]
  iapply (wp_scatterOut I K c 0)
  isplitr; · iexact He
  isplitl [Ho0t]; · iexact Ho0t
  isplitl [HO]; · iexact HO
  iintro ⟨HO, Ho0t⟩
  rw [wp_seq]
  iapply (wp_gatherOut I K c 1 (N_xb 1 _ _))
  isplitr; · iexact He
  isplitl [Ho1f]; · iexact Ho1f
  isplitl [HO]; · iexact HO
  iintro ⟨HO, Ho1f⟩
  rw [wp_seq]
  iapply (wp_scatterOut I K c 1)
  isplitr; · iexact He
  isplitl [Ho1t]; · iexact Ho1t
  isplitl [HO]; · iexact HO
  iintro ⟨HO, Ho1t⟩
  rw [wp_seq]
  iapply (wp_gatherOut I K c 2 (N_xb 2 _ _))
  isplitr; · iexact He
  isplitl [Ho2f]; · iexact Ho2f
  isplitl [HO]; · iexact HO
  iintro ⟨HO, Ho2f⟩
  iapply (wp_scatterOut I K c 2)
  isplitr; · iexact He
  isplitl [Ho2t]; · iexact Ho2t
  isplitl [HO]; · iexact HO
  iintro ⟨HO, Ho2t⟩
  ihave Hx := (x_back I c) $$ [Ho0f Hxk]
  · isplitl [Ho0f]; · iexact Ho0f
    iexact Hxk
  icases Hx with ⟨Hx, Ho0f⟩
  ihave Hx1 := (xb_back I c (l := 1) (by decide)) $$ [Ho1f Hx1 Hy1]
  · isplitl [Ho1f]; · iexact Ho1f
    isplitl [Hx1]; · iexact Hx1
    iexact Hy1
  icases Hx1 with ⟨Hx1, Ho1f⟩
  ihave Hx2 := (xb_back I c (l := 2) (by decide)) $$ [Ho2f Hx2 Hy2]
  · isplitl [Ho2f]; · iexact Ho2f
    isplitl [Hx2]; · iexact Hx2
    iexact Hy2
  icases Hx2 with ⟨Hx2, Ho2f⟩
  ihave Hq0 := (ps_back I c 0) $$ [Ho0t Hq0]
  · isplitl [Ho0t]; · iexact Ho0t
    iexact Hq0
  icases Hq0 with ⟨Hq0, Ho0t⟩
  ihave Hq1 := (ps_back I c 1) $$ [Ho1t Hq1]
  · isplitl [Ho1t]; · iexact Ho1t
    iexact Hq1
  icases Hq1 with ⟨Hq1, Ho1t⟩
  ihave Hq2 := (ps_back I c 2) $$ [Ho2t Hq2]
  · isplitl [Ho2t]; · iexact Ho2t
    iexact Hq2
  icases Hq2 with ⟨Hq2, Ho2t⟩
  iapply HQ
  isplitl [HO]; · iexact HO
  isplitl [Hx]; · iexact Hx
  isplitl [Hw0 Hv0 Hw1 Hv1 Hw2 Hv2]
  · iapply (Entails.of_eq (layers (fun l : Fin 3 => iprop(owns (c : Thread nD τ) (wiM l) fullShare (I.w l c) ∗ owns (c : Thread nD τ) (woM l) fullShare (I.v l c)))).symm)
    isplitl [Hw0 Hv0]
    · isplitl [Hw0]; · iexact Hw0
      iexact Hv0
    isplitl [Hw1 Hv1]
    · isplitl [Hw1]; · iexact Hw1
      iexact Hv1
    isplitl [Hw2]; · iexact Hw2
    iexact Hv2
  isplitl [Ho]; · iexact Ho
  isplitl [Hx0 Hy0 Hx1 Hx2 Hp0 Hp1 Hp2 Hq0 Hq1 Hq2]
  · isplitr [Hq0 Hq1 Hq2]
    · iapply (Entails.of_eq (phases (fun p : Ph => anyB c (dst p))).symm)
      isplitl [Hx0 Hy0 Hp0]
      · isplitl [Hx0 Hy0]
        · iapply (join_buf c (xbM 0))
          isplitl [Hx0]; · iapply (any_intro c (xbM 0) c (act I c 0)); iexact Hx0
          iexact Hy0
        iapply (any_B c (pbM 0) (pall I 0 c)); iexact Hp0
      isplitl [Hx1 Hp1]
      · isplitl [Hx1]; · iexact Hx1
        iapply (any_B c (pbM 1) (pall I 1 c)); iexact Hp1
      isplitl [Hx2]; · iexact Hx2
      iapply (any_B c (pbM 2) (pall I 2 c)); iexact Hp2
    iapply (Entails.of_eq (layers (fun l : Fin 3 => anyB c (psM l))).symm)
    isplitl [Hq0]; · iexact Hq0
    isplitl [Hq1]; · iexact Hq1
    iexact Hq2
  unfold zeros
  isplitl [Hzb]; · iexact Hzb
  isplitl [Ho0f Ho0t Ho1f Ho1t Ho2f Ho2t]
  · iapply (Entails.of_eq (phases (fun p : Ph => bigSep Finset.univ fun j : Fin 3 => semVal (sCell p j c) 0)).symm)
    isplitl [Ho0f Ho0t]
    · isplitl [Ho0f]; · iexact Ho0f
      iexact Ho0t
    isplitl [Ho1f Ho1t]
    · isplitl [Ho1f]; · iexact Ho1f
      iexact Ho1t
    isplitl [Ho2f]; · iexact Ho2f
    iexact Ho2t
  iapply (Entails.of_eq (phases (fun p : Ph => bigSep Finset.univ fun j : Fin 3 => semVal (rCell p j c) 0)).symm)
  isplitl [Hz0f Hz0t]
  · isplitl [Hz0f]; · iexact Hz0f
    iexact Hz0t
  isplitl [Hz1f Hz1t]
  · isplitl [Hz1f]; · iexact Hz1f
    iexact Hz1t
  isplitl [Hz2f]; · iexact Hz2f
  iexact Hz2t

end Cert.KernelIdeal.Prf

end
-- ==== Proof.KernelIdeal.Deal.lean ====
/-
# Dealing the exchange out at launch

The cells of the exchange, the tokens of their duties and the credit for what is owed them, minted for all devices at once and
dealt so that every device holds the tokens of the duties it pays.
-/
module

public import proofs.«01_k».proof.Proof.KernelIdeal.Body

@[expose] public section

noncomputable section

namespace Cert.KernelIdeal.Prf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F)

/-! ## The cells and their tokens -/

theorem csem_inj : Function.Injective csem
  | none, none, _ => rfl
  | none, some k, h => absurd h.symm (osem_ne_bar k)
  | some k, none, h => absurd h (osem_ne_bar k)
  | some _, some _, h => congrArg some (osem_inj h)

theorem kcell_inj : Function.Injective kcell := by
  rintro ⟨c, k⟩ ⟨c', k'⟩ h
  have h1 : c = c' := congrArg (fun g : GSem nD τ sig => g.1.1) h
  have h2 : k = k' := csem_inj (congrArg Prod.snd h)
  rw [h1, h2]

/-- Whose duty, which cell's: the barrier's three, or one of another cell. -/
abbrev Tk : Type := Dev nD × (Fin 3 ⊕ OK)
def tokOf : Tk → GSem nD τ sig × ℕ × Dut
  | (c, .inl d) => (barCell c, 0, d)
  | (c, .inr k) => (kcell (c, some k), 0, 0)

theorem tokOf_inj : Function.Injective tokOf := by
  rintro ⟨c, d | k⟩ ⟨c', d' | k'⟩ h
  · have h1 : ((c, none) : Dev nD × CK) = (c', none) := kcell_inj (congrArg Prod.fst h)
    have h2 : d = d' := congrArg (fun t : GSem nD τ sig × ℕ × Dut => t.2.2) h
    rw [(Prod.mk.inj h1).1, h2]
  · have h1 : ((c, none) : Dev nD × CK) = (c', some k') := kcell_inj (congrArg Prod.fst h)
    exact absurd (Prod.mk.inj h1).2 (by simp)
  · have h1 : ((c, some k) : Dev nD × CK) = (c', none) := kcell_inj (congrArg Prod.fst h)
    exact absurd (Prod.mk.inj h1).2 (by simp)
  · have h1 : ((c, some k) : Dev nD × CK) = (c', some k') := kcell_inj (congrArg Prod.fst h)
    rw [(Prod.mk.inj h1).1, Option.some.inj (Prod.mk.inj h1).2]

def xCells : Finset (GSem nD τ sig) := Finset.univ.map ⟨kcell, kcell_inj⟩
def xToks : Finset (GSem nD τ sig × ℕ × Dut) := Finset.univ.map ⟨tokOf, tokOf_inj⟩

/-! ## Conjunctions over cells -/

theorem all_cells (Φ : CK → sProp 𝕄) : bigSep Finset.univ Φ = iprop(Φ none ∗ bigSep Finset.univ fun k : OK => Φ (some k)) := by
  rw [bigSep_univ_at Φ none]
  have e : (Finset.univ.erase none : Finset CK) = Finset.univ.map Function.Embedding.some := by
    ext k; cases k <;> simp
  rw [e, bigSep_map]; rfl

theorem own_cells (Φ : OK → sProp 𝕄) : bigSep Finset.univ Φ
    = iprop((bigSep Finset.univ fun p : Ph => bigSep Finset.univ fun j : Fin 3 => Φ (false, p, j))
      ∗ bigSep Finset.univ fun p : Ph => bigSep Finset.univ fun j : Fin 3 => Φ (true, p, j)) := by
  rw [bigSep_univ_prod, sides, bigSep_univ_prod (fun k : Ph × Fin 3 => Φ (false, k)), bigSep_univ_prod (fun k : Ph × Fin 3 => Φ (true, k))]

/-! ## What a device gets -/

/-- Its own cells' tokens, as minted. -/
def toks (c : Dev nD) : sProp 𝕄 :=
  iprop((bigSep Finset.univ fun d : Fin 3 => dutyTok ER (barCell c) 0 d) ∗ bigSep Finset.univ fun k : OK => dutyTok ER (kcell (c, some k)) 0 0)

/-- What the launch element deals a device. -/
def G (c : Dev nD) : sProp 𝕄 :=
  iprop((bigSep Finset.univ fun k : CK => roundState ER (xRd I) (kcell (c, k)) 0)
    ∗ ((bigSep Finset.univ fun k : CK => atPos ER (kcell (c, k)) 0 ∅ 0) ∗ bigSep Finset.univ fun k : CK => reached ER (kcell (c, k)) 0) ∗ toks c)

/-- A device's part of the exchange but for its credit: the tokens of the duties it pays, its positions. -/
def deal (c : Dev nD) : sProp 𝕄 :=
  iprop((bigSep Finset.univ fun j : Fin 3 => dutyTok ER (barCell (tgt j c)) 0 (op j)) ∗ atPos ER (barCell c) 0 ∅ 0
    ∗ (bigSep Finset.univ fun p : Ph => bigSep Finset.univ fun j : Fin 3 => sendTok p j c)
    ∗ bigSep Finset.univ fun p : Ph => bigSep Finset.univ fun j : Fin 3 => atPos ER (rCell p j c) 0 ∅ 0)

def G' (c : Dev nD) : sProp 𝕄 := iprop(∃ K, records I K ∗ deal c)

theorem fund : BI.own (ER (initOf xCells xToks)) ⊢ (|==> bigSep Finset.univ (G I) : sProp 𝕄) := by
  have hX (Φ : GSem nD τ sig → sProp 𝕄) : bigSep xCells Φ = bigSep Finset.univ fun c : Dev nD => bigSep Finset.univ fun k : CK => Φ (kcell (c, k)) := by
    unfold xCells; rw [bigSep_map, bigSep_univ_prod]; rfl
  have hT : bigSep xToks (fun t => (dutyTok ER t.1 t.2.1 t.2.2 : sProp 𝕄)) = bigSep Finset.univ fun c : Dev nD => toks c := by
    unfold xToks; rw [bigSep_map, bigSep_univ_prod]
    exact bigSep_congr fun c _ => by unfold toks; rw [bigSep_univ_sum]; rfl
  have hG : (bigSep Finset.univ (G I) : sProp 𝕄) = iprop((bigSep xCells fun g => roundState ER (xRd I) g 0)
      ∗ ((bigSep xCells fun g => atPos ER g 0 ∅ 0) ∗ bigSep xCells fun g => reached ER g 0)
      ∗ bigSep xToks fun t => dutyTok ER t.1 t.2.1 t.2.2) := by
    rw [hX, hX, hX, hT, ← bigSep_sep', ← bigSep_sep', ← bigSep_sep']; rfl
  rw [hG]
  iintro H
  imod (Rounds.fund ER (xRd I) xCells xToks) $$ H with ⟨H1, H2, H3, H4⟩
  imodintro
  isplitl [H1]; · iexact H1
  isplitl [H2 H3]
  · isplitl [H3] <;> iassumption
  iexact H4

/-! ## Every semaphore's cell opened -/

theorem ownSems0_eq (c : Dev nD) : (Pipeline.ownSems0 (Ix := Unit) (Name := ℕ) (U := UU) (Lvl := ℕ) (Val := Elt F) (τ := τ) osem c : sProp 𝕄)
    = bigSep Finset.univ fun k : OK => semVal (kcell (c, some k)) 0 := rfl

theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's counters at zero: the barrier's unscoped one, and the kernel's own. -/
theorem zeros_eq (c : Dev nD) : (zeros c : sProp 𝕄)
    = iprop(unscopedSems0 c ∗ Pipeline.ownSems0 (Ix := Unit) (Name := ℕ) (U := UU) (Lvl := ℕ) (Val := Elt F) (τ := τ) osem c) := by
  rw [ownSems0_eq, unscopedSems0_eq, own_cells]; rfl

theorem open_cells (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun k : CK => iprop(∃ κ : ℕ, cellInv ER (xRd I) κ (kcell (c, k))))
          ∗ ((bigSep Finset.univ fun k : CK => atPos ER (kcell (c, k)) 0 ∅ 0) ∗ bigSep Finset.univ fun k : CK => reached ER (kcell (c, k)) 0) ∗ toks c) := by
  have hz : iprop(unscopedSems0 c ∗ Pipeline.ownSems0 (Ix := Unit) (Name := ℕ) (U := UU) (Lvl := ℕ) (Val := Elt F) (τ := τ) osem c)
      = (bigSep Finset.univ fun k : CK => semVal (kcell (c, k)) 0 : sProp 𝕄) := by
    rw [all_cells, ownSems0_eq, unscopedSems0_eq]
  have ho : iprop((unscopedSems0 c ∗ Pipeline.ownSems0 (Ix := Unit) (Name := ℕ) (U := UU) (Lvl := ℕ) (Val := Elt F) (τ := τ) osem c)
      ∗ bigSep Finset.univ fun k : CK => roundState ER (xRd I) (kcell (c, k)) 0)
      ⊢ (|={Set.univ}=> bigSep Finset.univ fun k : CK => iprop(∃ κ : ℕ, cellInv ER (xRd I) κ (kcell (c, k))) : sProp 𝕄) := by
    rw [hz, ← bigSep_sep']
    exact (bigSep_mono fun k _ => (Rounds.body_intro ER (xRd I) (kcell (c, k))).trans inv_alloc).trans (bigSep_fupd _ _)
  unfold G
  iintro ⟨Ho, Hu, Hst, Hrest⟩
  imod ho $$ [Ho Hu Hst] with Hinv
  · isplitl [Ho Hu]
    · isplitl [Hu] <;> iassumption
    iexact Hst
  imodintro
  isplitl [Hinv] <;> iassumption

/-! ## The tokens dealt around -/

def tgtE (j : Fin 3) : Dev nD ≃ Dev nD := ⟨tgt j, frm j, frm_tgt j, tgt_frm j⟩
def opE : Fin 3 ≃ Fin 3 := ⟨op, op, op_op, op_op⟩

theorem moved (Ψ : Fin 3 → Dev nD → sProp 𝕄) :
    (bigSep Finset.univ fun c : Dev nD => bigSep Finset.univ fun j : Fin 3 => Ψ j c)
      = bigSep Finset.univ fun c : Dev nD => bigSep Finset.univ fun j : Fin 3 => Ψ j (tgt j c) := by
  rw [swap, swap (fun (c : Dev nD) (j : Fin 3) => Ψ j (tgt j c))]
  exact bigSep_congr fun j _ => bigSep_univ_equiv (tgtE j) (Ψ j)

theorem bar_around :
    (bigSep Finset.univ fun c : Dev nD => bigSep Finset.univ fun d : Fin 3 => (dutyTok ER (barCell c) 0 d : sProp 𝕄))
      = bigSep Finset.univ fun c : Dev nD => bigSep Finset.univ fun j : Fin 3 => dutyTok ER (barCell (tgt j c)) 0 (op j) := by
  rw [← moved fun j c => dutyTok ER (barCell c) 0 (op j)]
  exact bigSep_congr fun c _ => bigSep_univ_equiv opE fun d => dutyTok ER (barCell c) 0 d

theorem recv_around :
    (bigSep Finset.univ fun c : Dev nD => bigSep Finset.univ fun p : Ph => bigSep Finset.univ fun j : Fin 3 => (dutyTok ER (rCell p j c) 0 0 : sProp 𝕄))
      = bigSep Finset.univ fun c : Dev nD => bigSep Finset.univ fun p : Ph => bigSep Finset.univ fun j : Fin 3 => dutyTok ER (rCell p j (tgt j c)) 0 0 := by
  rw [swap, swap fun (c : Dev nD) (p : Ph) => bigSep Finset.univ fun j : Fin 3 => (dutyTok ER (rCell p j (tgt j c)) 0 0 : sProp 𝕄)]
  exact bigSep_congr fun p _ => moved fun j c => dutyTok ER (rCell p j c) 0 0

theorem deal_all :
    iprop((bigSep Finset.univ fun c : Dev nD => bigSep Finset.univ fun k : CK => atPos ER (kcell (c, k)) 0 ∅ 0) ∗ bigSep Finset.univ fun c : Dev nD => toks c)
      ⊢ (bigSep Finset.univ fun c : Dev nD => deal c : sProp 𝕄) := by
  have e : (bigSep Finset.univ fun c : Dev nD => deal c : sProp 𝕄)
      = iprop((bigSep Finset.univ fun c : Dev nD => bigSep Finset.univ fun j : Fin 3 => dutyTok ER (barCell (tgt j c)) 0 (op j))
        ∗ (bigSep Finset.univ fun c : Dev nD => atPos ER (barCell c) 0 ∅ 0)
        ∗ (((bigSep Finset.univ fun c : Dev nD => bigSep Finset.univ fun p : Ph => bigSep Finset.univ fun j : Fin 3 => dutyTok ER (sCell p j c) 0 0)
          ∗ (bigSep Finset.univ fun c : Dev nD => bigSep Finset.univ fun p : Ph => bigSep Finset.univ fun j : Fin 3 => dutyTok ER (rCell p j (tgt j c)) 0 0))
          ∗ (bigSep Finset.univ fun c : Dev nD => bigSep Finset.univ fun p : Ph => bigSep Finset.univ fun j : Fin 3 => atPos ER (sCell p j c) 0 ∅ 0))
        ∗ bigSep Finset.univ fun c : Dev nD => bigSep Finset.univ fun p : Ph => bigSep Finset.univ fun j : Fin 3 => atPos ER (rCell p j c) 0 ∅ 0) := by
    unfold deal sendTok; simp only [bigSep_sep']
  rw [e, ← bar_around, ← recv_around]
  unfold toks
  simp only [all_cells, own_cells, bigSep_sep']
  iintro ⟨⟨A0, A1, A2⟩, T0, T1, T2⟩
  isplitl [T0]; · iexact T0
  isplitl [A0]; · iexact A0
  isplitl [T1 T2 A1]
  · isplitl [T1 T2]
    · isplitl [T1]; · iexact T1
      iexact T2
    iexact A1
  iexact A2

theorem with_records {R : sProp 𝕄} [BI.Persistent R] (Φ : Dev nD → sProp 𝕄) :
    iprop(R ∗ bigSep Finset.univ Φ) ⊢ bigSep Finset.univ fun c => iprop(R ∗ Φ c) := by
  rw [bigSep_sep']; exact sep_mono_left (BI.bigSep_of_persistent Finset.univ R)

theorem dealt :
    (bigSep Finset.univ fun c : Dev nD => iprop((bigSep Finset.univ fun k : CK => iprop(∃ κ : ℕ, cellInv ER (xRd I) κ (kcell (c, k))))
          ∗ ((bigSep Finset.univ fun k : CK => atPos ER (kcell (c, k)) 0 ∅ 0) ∗ bigSep Finset.univ fun k : CK => reached ER (kcell (c, k)) 0) ∗ toks c) : sProp 𝕄)
      ⊢ bigSep Finset.univ (G' I) := by
  rw [bigSep_sep', bigSep_sep', bigSep_sep', ← bigSep_univ_prod (fun ck : Dev nD × CK => iprop(∃ κ : ℕ, cellInv ER (xRd I) κ (kcell ck))),
    ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (xRd I) κ (kcell ck) : sProp 𝕄))) $$ HI
  icases HK with ⟨%K, #HI⟩
  ihave Hd := (deal_all (F := F)) $$ [Hat Htok]
  · isplitl [Hat] <;> iassumption
  have hk : (bigSep Finset.univ fun c => iprop(records I K ∗ deal c) : sProp 𝕄) ⊢ bigSep Finset.univ (G' I) :=
    bigSep_mono fun c _ => exists_intro (Φ := fun K => iprop(records I K ∗ deal c)) K
  iapply hk
  iapply (with_records (R := records I K) fun c => (deal c : sProp 𝕄))
  isplitr
  · unfold records; isplitl; · iexact HI
    iexact HR
  · iexact Hd

/-- Every device's semaphores and share of the launch element, at once. -/
theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => open_cells I c).trans (bigSep_fupd _ _)).trans (BI.fupd_mono (dealt I))

/-! ## The credit -/

theorem rCell_iff {p p' : Ph} {j j' : Fin 3} {c c' : Dev nD} : rCell p j c = rCell p' j' c' ↔ c = c' ∧ (p, j) = (p', j') := by
  constructor
  · intro h
    have h' : ((c, some (true, p, j)) : Dev nD × CK) = (c', some (true, p', j')) := kcell_inj h
    have h2 := Option.some.inj (Prod.mk.inj h').2
    exact ⟨(Prod.mk.inj h').1, (Prod.mk.inj h2).2⟩
  · rintro ⟨rfl, h⟩; obtain ⟨rfl, rfl⟩ := Prod.mk.inj h; rfl

theorem tgt_eq_iff {j : Fin 3} {c d : Dev nD} : c = tgt j d ↔ d = frm j c :=
  ⟨fun h => by rw [h, frm_tgt], fun h => by rw [h, tgt_frm]⟩

theorem owe_recv (d c : Dev nD) (p : Ph) (j : Fin 3) : ∀ K : List (Ph × Fin 3),
    owe d K (rCell p j c) () = if d = frm j c then K.count (p, j) * N else 0
  | [] => by unfold owe; simp
  | k :: K => by
    unfold owe
    rw [Pi.add_apply, Finsupp.add_apply, owe_recv d c p j K, tallyAt_apply, List.count_cons]
    by_cases hk : k = (p, j)
    · subst hk
      by_cases hd : d = frm j c
      · rw [if_pos hd, if_pos hd, if_pos ⟨rCell_iff.mpr ⟨tgt_eq_iff.mpr hd, rfl⟩, rfl⟩]; simp [Nat.add_mul]
      · rw [if_neg hd, if_neg hd, if_neg fun h => hd (tgt_eq_iff.mp (rCell_iff.mp h.1).1)]
    · have hn : ¬(rCell p j c = rCell k.1 k.2 (tgt k.2 d) ∧ () = ()) := fun h => hk (rCell_iff.mp h.1).2.symm
      rw [if_neg hn]
      simp only [beq_iff_eq, if_neg hk, Nat.add_zero]

theorem sends_once : ∀ k : Ph × Fin 3, sends.count k = 1 := by decide

theorem owe_bar (d c : Dev nD) (K : List (Ph × Fin 3)) : owe d K (barCell c) () = 0 := by
  by_contra h
  obtain ⟨k, _, e⟩ := owe_pos (Nat.pos_of_ne_zero h)
  exact ne_bar _ (congrArg Prod.snd e).symm

theorem bar_one (d c : Dev nD) (j : Fin 3) : (tallyAt (barCell (tgt j d)) () 1 : CellTallies nD τ sig Unit) (barCell c) () = if d = frm j c then 1 else 0 := by
  rw [tallyAt_apply]
  have h : (barCell c = barCell (tgt j d) ∧ () = ()) ↔ d = frm j c :=
    ⟨fun h => tgt_eq_iff.mp (congrArg (fun g : GSem nD τ sig => g.1.1) h.1), fun h => ⟨congrArg barCell (tgt_eq_iff.mpr h), rfl⟩⟩
  exact if_congr h rfl rfl

theorem owed_bar (d c : Dev nD) : O₀ d (barCell c) () = (if d = frm 2 c then 1 else 0) + (if d = frm 1 c then 1 else 0) + if d = frm 0 c then 1 else 0 := by
  unfold O₀ O₁ O₂
  simp only [Pi.add_apply, Finsupp.add_apply]
  rw [owe_bar, bar_one, bar_one, bar_one, Nat.zero_add]

theorem owed_recv (d c : Dev nD) (p : Ph) (j : Fin 3) : O₀ d (rCell p j c) () = if d = frm j c then N else 0 := by
  unfold O₀ O₁ O₂
  simp only [Pi.add_apply, Finsupp.add_apply]
  have h (i : Fin 3) : (tallyAt (barCell (tgt i d)) () 1 : CellTallies nD τ sig Unit) (rCell p j c) () = 0 := by
    rw [tallyAt_apply, if_neg fun h => ne_bar _ (congrArg Prod.snd h.1)]
  rw [owe_recv, sends_once, h, h, h, Nat.one_mul]
  rfl

theorem credit_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib]
  simp only [Finset.sum_ite_eq', Finset.mem_univ, if_true]

theorem credit_recv (p : Ph) (j : Fin 3) (c : Dev nD) :
    tallyOn (rCell p j c) (launchCredit (Pipeline.owing O₀) 0 (rCell p j c)) = (tallyAt (rCell p j c) () N : CellTallies nD τ sig Unit) := by
  unfold tallyAt; refine congrArg _ (Finsupp.ext fun u => ?_); cases u
  rw [Pipeline.launchCredit_owing, Finsupp.single_eq_same, Finset.sum_congr rfl fun d _ => owed_recv d c p j]
  simp only [Finset.sum_ite_eq', Finset.mem_univ, if_true]

theorem rSem_inj : Function.Injective fun k : Ph × Fin 3 => (SemLoc.dma (rS k.1 k.2) : SemLoc sig) := fun a b h => by
  have h' : ((true, a) : OK) = (true, b) := osem_inj h
  exact (Prod.mk.inj h').2

theorem creds (c : Dev nD) :
    (Pipeline.launchCred O₀ c : sProp 𝕄) ⊢ iprop(cred (tallyAt (barCell c) () 3)
      ∗ bigSep Finset.univ fun p : Ph => bigSep Finset.univ fun j : Fin 3 => cred (tallyAt (rCell p j c) () N)) := by
  unfold Pipeline.launchCred
  rw [bigSep_univ_at _ (SemLoc.reg barS), credit_bar]
  refine sep_mono_right ?_
  have e : (bigSep (Finset.univ.map ⟨fun k : Ph × Fin 3 => (SemLoc.dma (rS k.1 k.2) : SemLoc sig), rSem_inj⟩) fun sm : SemLoc sig =>
        (cred (tallyOn ((c.tc : Thread nD τ), sm) (launchCredit (Pipeline.owing O₀) 0 ((c.tc : Thread nD τ), sm))) : sProp 𝕄))
      = bigSep Finset.univ fun p : Ph => bigSep Finset.univ fun j : Fin 3 => cred (tallyAt (rCell p j c) () N) := by
    rw [bigSep_map, bigSep_univ_prod]
    exact bigSep_congr fun p _ => bigSep_congr fun j _ => congrArg cred (credit_recv p j c)
  rw [← e]
  refine bigSep_subset fun sm hs => ?_
  obtain ⟨k, _, rfl⟩ := Finset.mem_map.mp hs
  exact Finset.mem_erase.mpr ⟨ne_bar _, Finset.mem_univ _⟩

/-- The deal with its credit is the body's part of the exchange. -/
theorem kit_intro (c : Dev nD) : iprop(deal c ∗ Pipeline.launchCred O₀ c) ⊢ (kit c : sProp 𝕄) := by
  have h : iprop((bigSep Finset.univ fun p : Ph => bigSep Finset.univ fun j : Fin 3 => (atPos ER (rCell p j c) 0 ∅ 0 : sProp 𝕄))
      ∗ bigSep Finset.univ fun p : Ph => bigSep Finset.univ fun j : Fin 3 => cred (tallyAt (rCell p j c) () N))
      ⊢ bigSep Finset.univ fun p : Ph => bigSep Finset.univ fun j : Fin 3 => toCome p j c := by
    unfold toCome; simp only [bigSep_sep']; exact Entails.of_eq rfl
  unfold deal kit
  iintro ⟨⟨H1, H2, H3, H4⟩, Hc⟩
  ihave Hc := (creds (F := F) c) $$ Hc
  icases Hc with ⟨C1, C2⟩
  isplitl [H1]; · iexact H1
  isplitl [H2 C1]
  · isplitl [H2] <;> iassumption
  isplitl [H3]; · iexact H3
  iapply h
  isplitl [H4] <;> iassumption

end Cert.KernelIdeal.Prf

end
-- ==== Proof.KernelIdeal.Launch.lean ====
/-
# The run of the kernel

The kernel's run on all devices: what it stages, what its body is owed and owes, and the launch. Every execution ends, with the
result of every device in its array, the arguments as they were, and every semaphore at zero.
-/
module

public import proofs.«01_k».proof.Proof.KernelIdeal.Deal
public import Idealize.ShloMosaic.Lib.Pipeline.CollectiveSegs

@[expose] public section

noncomputable section

namespace Cert.KernelIdeal.Prf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation)

variable (m : (ℓ : Loc nD τ sig) → Buf (Elt F) ℓ) (ρ : Dev nD → PrngReg)

/-- The memory at launch: any contents, every semaphore at zero. -/
def s₀ : MemSt nD τ sig (Elt F) := ⟨m, fun _ => 0, ρ⟩

/-! ## What is staged -/

def inp : Inp F where
  x c := (win0_0.blk (0 : Fin 1)).view.read (Elt F) ((s₀ m ρ).mem ((c : Thread nD τ).loc main_arg0))
  w
    | 0, c => (win0_1.blk (0 : Fin 1)).view.read (Elt F) ((s₀ m ρ).mem ((c : Thread nD τ).loc main_arg1))
    | 1, c => (win0_3.blk (0 : Fin 1)).view.read (Elt F) ((s₀ m ρ).mem ((c : Thread nD τ).loc main_arg2))
    | 2, c => (win0_5.blk (0 : Fin 1)).view.read (Elt F) ((s₀ m ρ).mem ((c : Thread nD τ).loc main_arg3))
  v
    | 0, c => (win0_2.blk (0 : Fin 1)).view.read (Elt F) ((s₀ m ρ).mem ((c : Thread nD τ).loc main_arg4))
    | 1, c => (win0_4.blk (0 : Fin 1)).view.read (Elt F) ((s₀ m ρ).mem ((c : Thread nD τ).loc main_arg5))
    | 2, c => (win0_6.blk (0 : Fin 1)).view.read (Elt F) ((s₀ m ρ).mem ((c : Thread nD τ).loc main_arg6))

/-! ## The pipeline's data -/

def start (c : Dev nD) : sProp 𝕄 := iprop(∃ K, env (inp m ρ) K ∗ kit c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (inp m ρ).x c
    | ⟨1, _⟩ => (inp m ρ).w 0 c
    | ⟨2, _⟩ => (inp m ρ).v 0 c
    | ⟨3, _⟩ => (inp m ρ).w 1 c
    | ⟨4, _⟩ => (inp m ρ).v 1 c
    | ⟨5, _⟩ => (inp m ρ).w 2 c
    | ⟨6, _⟩ => (inp m ρ).v 2 c
    | ⟨7, _⟩ => res (inp m ρ) c
  Φ t := match t with
    | ⟨0, _⟩ => iprop(start m ρ c ∗ bufs c)
    | ⟨_ + 1, _⟩ => iprop(bufs c ∗ zeros c)
  q _ := fullShare
  owed t := match t with
    | ⟨0, _⟩ => O₀ c
    | ⟨_ + 1, _⟩ => owe c []

abbrev t₀ : Fin cfg0.N := t0_0

theorem before_0 (c : Dev nD) (d) : (dats m ρ 0 c).before (0 : Fin 8) t₀ d = (inp m ρ).x c := by unfold Dat.before; rw [if_pos (fetch0_0 t₀)]; rfl
theorem before_1 (c : Dev nD) (d) : (dats m ρ 0 c).before (1 : Fin 8) t₀ d = (inp m ρ).w 0 c := by unfold Dat.before; rw [if_pos (fetch0_1 t₀)]; rfl
theorem before_2 (c : Dev nD) (d) : (dats m ρ 0 c).before (2 : Fin 8) t₀ d = (inp m ρ).v 0 c := by unfold Dat.before; rw [if_pos (fetch0_2 t₀)]; rfl
theorem before_3 (c : Dev nD) (d) : (dats m ρ 0 c).before (3 : Fin 8) t₀ d = (inp m ρ).w 1 c := by unfold Dat.before; rw [if_pos (fetch0_3 t₀)]; rfl
theorem before_4 (c : Dev nD) (d) : (dats m ρ 0 c).before (4 : Fin 8) t₀ d = (inp m ρ).v 1 c := by unfold Dat.before; rw [if_pos (fetch0_4 t₀)]; rfl
theorem before_5 (c : Dev nD) (d) : (dats m ρ 0 c).before (5 : Fin 8) t₀ d = (inp m ρ).w 2 c := by unfold Dat.before; rw [if_pos (fetch0_5 t₀)]; rfl
theorem before_6 (c : Dev nD) (d) : (dats m ρ 0 c).before (6 : Fin 8) t₀ d = (inp m ρ).v 2 c := by unfold Dat.before; rw [if_pos (fetch0_6 t₀)]; rfl

/-! ## The body -/

def bodyPre (c : Dev nD) : sProp 𝕄 :=
  iprop((start m ρ c ∗ bufs c) ∗ (dats m ρ 0 c).owesAt () t₀.castSucc
    ∗ (∃ d, owns (c : Thread nD τ) xM fullShare ((dats m ρ 0 c).before (0 : Fin 8) t₀ d))
    ∗ (∃ d, owns (c : Thread nD τ) (wiM 0) fullShare ((dats m ρ 0 c).before (1 : Fin 8) t₀ d))
    ∗ (∃ d, owns (c : Thread nD τ) (woM 0) fullShare ((dats m ρ 0 c).before (2 : Fin 8) t₀ d))
    ∗ (∃ d, owns (c : Thread nD τ) (wiM 1) fullShare ((dats m ρ 0 c).before (3 : Fin 8) t₀ d))
    ∗ (∃ d, owns (c : Thread nD τ) (woM 1) fullShare ((dats m ρ 0 c).before (4 : Fin 8) t₀ d))
    ∗ (∃ d, owns (c : Thread nD τ) (wiM 2) fullShare ((dats m ρ 0 c).before (5 : Fin 8) t₀ d))
    ∗ (∃ d, owns (c : Thread nD τ) (woM 2) fullShare ((dats m ρ 0 c).before (6 : Fin 8) t₀ d))
    ∗ (∃ d, owns (c : Thread nD τ) oM fullShare ((dats m ρ 0 c).before (7 : Fin 8) t₀ d)))

def bodyPost (c : Dev nD) : sProp 𝕄 :=
  iprop((bufs c ∗ zeros c) ∗ (dats m ρ 0 c).owesAt () t₀.succ
    ∗ owns (c : Thread nD τ) xM fullShare ((inp m ρ).x c)
    ∗ owns (c : Thread nD τ) (wiM 0) fullShare ((inp m ρ).w 0 c)
    ∗ owns (c : Thread nD τ) (woM 0) fullShare ((inp m ρ).v 0 c)
    ∗ owns (c : Thread nD τ) (wiM 1) fullShare ((inp m ρ).w 1 c)
    ∗ owns (c : Thread nD τ) (woM 1) fullShare ((inp m ρ).v 1 c)
    ∗ owns (c : Thread nD τ) (wiM 2) fullShare ((inp m ρ).w 2 c)
    ∗ owns (c : Thread nD τ) (woM 2) fullShare ((inp m ρ).v 2 c)
    ∗ owns (c : Thread nD τ) oM fullShare (res (inp m ρ) c))

theorem body_run (c : Dev nD) : bodyPre m ρ c ⊢ WP c (rest c) (fun _ => bodyPost m ρ c) := by
  unfold bodyPre bodyPost start
  simp only [before_0, before_1, before_2, before_3, before_4, before_5, before_6]
  unfold Dat.owesAt Pipeline.owesWithin
  rw [show (dats m ρ 0 c).owed t₀.castSucc = O₀ c from rfl, show (dats m ρ 0 c).owed t₀.succ = owe c [] from rfl]
  iintro ⟨⟨⟨%K, He, Hkit⟩, Hb⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩⟩
  iapply (wp_rest (inp m ρ) K c)
  isplitl [He]; · iexact He
  isplitl [Hkit]; · iexact Hkit
  isplitl [HO]
  · unfold ow; iexists W; iexact HO
  isplitl [H0]; · iexact H0
  isplitl [H1 H2 H3 H4 H5 H6]
  · unfold weights
    iapply (Entails.of_eq (layers _).symm)
    isplitl [H1 H2]
    · isplitl [H1] <;> iassumption
    isplitl [H3 H4]
    · isplitl [H3] <;> iassumption
    isplitl [H5] <;> iassumption
  isplitl [H7]
  · iexists _; iexact H7
  isplitl [Hb]; · iexact Hb
  unfold weights ow
  iintro ⟨⟨%W', HO⟩, H0, Hw, H7, Hb, Hz⟩
  ihave Hw := (Entails.of_eq (layers _)) $$ Hw
  icases Hw with ⟨⟨H1, H2⟩, ⟨H3, H4⟩, H5, H6⟩
  isplitl [Hb Hz]
  · isplitl [Hb] <;> iassumption
  isplitl [HO]
  · iexists W'
    isplitr
    · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6] <;> iassumption

theorem wp_device (c : Dev nD) (k : Dev nD → Pg (F := F) PUnit) (Q : PUnit → sProp 𝕄) :
    WP c ((Prog.lift .deviceId).bind k) Q = WP c (k c) Q := wp_deviceId 𝒱₀ (c : Thread nD τ) none Set.univ

theorem body_run_whole (c : Dev nD) : bodyPre m ρ c ⊢ WP c (cc0_body (F := F) xM (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_stg6_0) (Memref.isWhole_whole _) oM (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _)
      (Memref.whole cc0_scratch4) (Memref.isWhole_whole _) (Memref.whole cc0_scratch5) (Memref.isWhole_whole _) (Memref.whole cc0_scratch6) (Memref.isWhole_whole _)
      (Memref.whole cc0_scratch7) (Memref.isWhole_whole _) (Memref.whole cc0_scratch8) (Memref.isWhole_whole _) cc0_scratch9 cc0_scratch10)
    (fun _ => bodyPost m ρ c) := by
  rw [body_eq]
  rw [wp_device c (fun d0 => rest d0)]
  exact body_run m ρ c

set_option maxRecDepth 20000 in
theorem body_obligation (c : Dev nD) : BodyObligation (dats (F := F) m ρ 0 c) (defs₀ (F := F)) 𝒱₀ () Set.univ := fun t => by
  rw [fin_N0 t, bigSep_W0, bigSep_W0]
  exact body_run_whole m ρ c

/-! ## The launch -/

theorem ownSemFacts : Pipeline.OwnSemFacts cfg0.spec osem := by
  refine ⟨by decide, osem_inj, fun k w s h => ?_⟩
  have h1 : dec (.dma ((cfg0.spec w).sem s)) = none := by fin_cases w <;> fin_cases s <;> decide
  rw [← h, dec_osem] at h1
  exact absurd h1 (by simp)

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), initOf xCells xToks)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (inp m ρ) c)
      ⊢ |={Set.univ}=> iprop(start m ρ c ∗ emp) := by
  unfold G' start env
  iintro ⟨-, Hlev, Hcr, -, ⟨%K, HR, Hd⟩⟩
  imodintro
  isplitl
  · iexists K
    isplitl [HR Hlev]
    · isplitl [HR] <;> iassumption
    iapply (kit_intro (F := F) c)
    isplitl [Hd] <;> iassumption
  · iempintro

theorem anyB_eq (c : Dev nD) (b : Ref sig .tc) : (iprop(∃ X, owns (c : Thread nD τ) (Memref.whole b) fullShare X) : sProp 𝕄)
    = iprop(∃ f : Buf (Elt F) ((c : Thread nD τ).loc b), ((c : Thread nD τ).loc b) ↦{fullShare} f) := by
  simp only [owns_whole]

/-- The scratch buffers: the landing buffers of every phase and the buffers the partial results are sent from. -/
theorem bufs_eq (c : Dev nD) : (Pipeline.scopedRest cfg0.spec c : sProp 𝕄) = bufs c := by
  have e : (bufs c : sProp 𝕄) = iprop(((anyB c (xbM 0) ∗ anyB c (pbM 0)) ∗ (anyB c (xbM 1) ∗ anyB c (pbM 1)) ∗ anyB c (xbM 2) ∗ anyB c (pbM 2))
      ∗ anyB c (psM 0) ∗ anyB c (psM 1) ∗ anyB c (psM 2)) := by
    unfold bufs; rw [phases, layers]; rfl
  have e' : (Pipeline.scopedRest cfg0.spec c : sProp 𝕄) = iprop(anyB c (xbM 0) ∗ anyB c (xbM 1) ∗ anyB c (xbM 2)
      ∗ anyB c (pbM 0) ∗ anyB c (pbM 1) ∗ anyB c (pbM 2) ∗ anyB c (psM 0) ∗ anyB c (psM 1) ∗ anyB c (psM 2)) := by
    rw [scopedRest0_eq]; simp only [← anyB_eq]; rfl
  rw [e, e']
  have h : ∀ X0 X1 X2 P0 P1 P2 S : sProp 𝕄, iprop(X0 ∗ X1 ∗ X2 ∗ P0 ∗ P1 ∗ P2 ∗ S) = iprop(((X0 ∗ P0) ∗ (X1 ∗ P1) ∗ X2 ∗ P2) ∗ S) := fun X0 X1 X2 P0 P1 P2 S => by
    have h1 : (iprop(X0 ∗ X1 ∗ X2 ∗ P0 ∗ P1 ∗ P2 ∗ S) : sProp 𝕄) ⊢ iprop(((X0 ∗ P0) ∗ (X1 ∗ P1) ∗ X2 ∗ P2) ∗ S) := by
      iintro ⟨X0, X1, X2, P0, P1, P2, S⟩
      isplitr [S]
      · isplitl [X0 P0]
        · isplitl [X0] <;> iassumption
        isplitl [X1 P1]
        · isplitl [X1] <;> iassumption
        isplitl [X2] <;> iassumption
      iexact S
    have h2 : (iprop(((X0 ∗ P0) ∗ (X1 ∗ P1) ∗ X2 ∗ P2) ∗ S) : sProp 𝕄) ⊢ iprop(X0 ∗ X1 ∗ X2 ∗ P0 ∗ P1 ∗ P2 ∗ S) := by
      iintro ⟨⟨⟨X0, P0⟩, ⟨X1, P1⟩, X2, P2⟩, S⟩
      isplitl [X0]; · iexact X0
      isplitl [X1]; · iexact X1
      isplitl [X2]; · iexact X2
      isplitl [P0]; · iexact P0
      isplitl [P1]; · iexact P1
      isplitl [P2]; · iexact P2
      iexact S
    exact BI.equiv_iff.mp ⟨h1, h2⟩
  exact h _ _ _ _ _ _ _

theorem phi_in (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m ρ c ∗ bufs c) from rfl, bufs_eq]
  iintro ⟨Hs, -, Hb⟩
  isplitl [Hs] <;> iassumption

theorem phi_out (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(bufs c ∗ zeros c) from rfl, bufs_eq, zeros_eq]
  iintro ⟨Hb, Hu, Ho⟩
  isplitl [Hu]; · iexact Hu
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What a window's array holds at the end. -/
def finalA (c : Dev nD) (w : Fin cfg0.W) : Buf (Elt F) ((cfg0.win w).arr.view.loc (c : Thread nD τ)) := (dats m ρ 0 c).arrAt w cfg0.N

def Ends : PUnit × MemSt nD τ sig (Elt F) → Prop := fun r =>
  ∀ c : Dev nD, ∀ w : Fin cfg0.W, r.2.mem ((cfg0.win w).arr.view.loc (c : Thread nD τ)) = finalA m ρ c w

set_option maxRecDepth 8000 in
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (inp m ρ)) (G' := G' (inp m ρ)) (u₀ := u₀)
    (hu₀ := by
      unfold u₀
      iintro Hu
      ihave H := (ownU_pair _ _) $$ Hu
      icases H with ⟨HP, HX⟩
      imod (fund (inp m ρ)) $$ HX with HG
      imodintro
      isplitl [HP] <;> iassumption)
    (hglob := glob (inp m ρ))
    (hA := fun _ _ => rfl) (hpf := fun _ k => k.elim0)
    (X := start m ρ) (Y := fun c => unscopedSems0 c) (Z := fun _ => iprop(emp))
    (hX := start_intro m ρ) (hin := phi_in m ρ) (hout := phi_out m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold -/

/-- An argument's array is as it was, -/
theorem final_in (c : Dev nD) (w : Fin 8) (hw : (cfg0.win w).isOut = false) :
    finalA m ρ c w = (s₀ m ρ).mem ((cfg0.win w).arr.view.loc (c : Thread nD τ)) :=
  (dats (F := F) m ρ 0 c).arrAt_in w hw _

/-- and the result's holds the body's result. -/
theorem final_out (c : Dev nD) : (win0_7.blk (0 : Fin 1)).view.read (Elt F) (finalA m ρ c (7 : Fin 8)) = res (inp m ρ) c := by
  unfold finalA
  rw [show cfg0.N = (t₀ : Fin cfg0.N).val + 1 from rfl, (dats m ρ 0 c).arrAt_succ (7 : Fin 8) t₀]
  rw [show (cfg0.win (7 : Fin 8)).flush t₀ = true from flush0_7 t₀, if_pos rfl]
  exact View.read_write_univ _ _

end Cert.KernelIdeal.Prf

end
-- ==== Proof.KernelIdeal.Value.lean ====
/-
# The mathematics of the kernel and the reference

A layer of the reference contracts over all hidden units; a device's partial result contracts over its own quarter of them, and
the four partial results add up to the layer on the device's rows.
-/
module

public import proofs.«01_k».proof.Proof.KernelIdeal.Launch
public import proofs.«01_k».proof.Proof.Gen.ReferenceIdeal.Run
public import Idealize.ShloMosaic.Lib.Layout
public import Idealize.ShloMosaic.Lib.Pointwise
public import Idealize.ShloMosaic.Lib.Pointwise.Sums

@[expose] public section

noncomputable section

namespace Cert.KernelIdeal.Prf

open Cert.KernelIdeal Cert.KernelIdeal.Gen
open Idealize.ShloMosaic
open Idealize.ShloMosaic.TcCoe
open scoped BigOperators

/-! ## A layer of the reference -/

abbrev RefX : Type := FVec Ideal ReferenceIdeal.S512x128 .f32
abbrev RefW : Type := FVec Ideal ReferenceIdeal.S128x1024 .f32
abbrev RefV : Type := FVec Ideal ReferenceIdeal.S1024x128 .f32

/-- The reference's layer, as it is printed. -/
def refLayer (W : RefW) (V : RefV) (A : RefX) : RefX :=
  Host.dotGeneral ReferenceIdeal.dot_S512x1024_S1024x128_S512x128_1_0_0_1_n_n none
    (maximumf (Host.dotGeneral ReferenceIdeal.dot_S512x128_S128x1024_S512x1024_1_0_0_1_n_n none A W)
      (broadcastInDim ReferenceIdeal.S512x1024 ![] ReferenceIdeal.Facts₀.bcast_S_S512x1024 (constant ReferenceIdeal.S_ .f32 0x00000000#32))) V

/-- At an index: the sum over all hidden units. -/
theorem refLayer_at (W : RefW) (V : RefV) (A : RefX) (r : Fin 512) (c : Fin 128) :
    refLayer W V A (ix2 r c) = ∑ k : Fin 1024, max (∑ d : Fin 128, A (ix2 r d) * W (ix2 d k)) 0 * V (ix2 k c) := by
  pointwise [refLayer]

/-! ## The kernel's values at an index -/

/-- A partial result at an index: the sum over the device's hidden units. -/
theorem part_at (w : Vec Ideal S128x256 .f32) (v : Vec Ideal S256x128 .f32) (X : Vec Ideal S1x128x128 .f32) (r c : Fin 128) :
    k0_pay4 w v X (ix3 (0 : Fin 1) r c) = ∑ k : Fin 256, max (∑ d : Fin 128, X (ix3 (0 : Fin 1) r d) * w (ix2 d k)) 0 * v (ix2 k c) := by
  pointwise [k0_pay4, k0_pay2, k0_pay3]

/-- The sum of the four slots of a buffer, as a slot, -/
theorem pay8_at (P : Vec Ideal S4x128x128 .f32) (r c : Fin 128) :
    k0_pay8 P (ix3 (0 : Fin 1) r c) = P (ix3 (0 : Fin 4) r c) + P (ix3 (1 : Fin 4) r c) + P (ix3 (2 : Fin 4) r c) + P (ix3 (3 : Fin 4) r c) := by
  pointwise [k0_pay8]

/-- and as a block of the result. -/
theorem pay23_at (P : Vec Ideal S4x128x128 .f32) (r c : Fin 128) :
    k0_pay23 P (ix2 r c) = P (ix3 (0 : Fin 4) r c) + P (ix3 (1 : Fin 4) r c) + P (ix3 (2 : Fin 4) r c) + P (ix3 (3 : Fin 4) r c) := by
  pointwise [k0_pay23]

/-- The activations as a slot. -/
theorem pay1_at (X : Vec Ideal S128x128 .f32) (r c : Fin 128) : k0_pay1 X (ix3 (0 : Fin 1) r c) = X (ix2 r c) := by
  pointwise [k0_pay1]

/-! ## A layer on a device's rows -/

/-- Row `r` of device `c`'s block of the activations, among all rows. -/
def row (c : Dev nD) (r : Fin 128) : Fin 512 := ⟨c.val * 128 + r.val, by have := c.isLt; have := r.isLt; unfold nD at *; omega⟩
/-- Hidden unit `k` of device `s`'s block of a layer, among all hidden units. -/
def hid (s : Dev nD) (k : Fin 256) : Fin 1024 := ⟨s.val * 256 + k.val, by have := s.isLt; have := k.isLt; unfold nD at *; omega⟩

/-- The slot `X` holds device `c`'s rows of `A`. -/
def Rows (c : Dev nD) (X : Vec Ideal S1x128x128 .f32) (A : RefX) : Prop :=
  ∀ (r d : Fin 128), X (ix3 (0 : Fin 1) r d) = A (ix2 (row c r) d)

/-- The devices' blocks of layer `l`'s weights are those of `W` and `V`. -/
structure Cuts (I : Inp Ideal) (l : Fin 3) (W : RefW) (V : RefV) : Prop where
  w : ∀ (s : Dev nD) (d : Fin 128) (k : Fin 256), I.w l s (ix2 d k) = W (ix2 d (hid s k))
  v : ∀ (s : Dev nD) (k : Fin 256) (q : Fin 128), I.v l s (ix2 k q) = V (ix2 (hid s k) q)

/-- Slot `s` of the partial results side by side is device `s`'s. -/
theorem beside_at (P : Dev nD → Vec Ideal S1x128x128 .f32) (s : Fin 4) (r q : Fin 128) :
    beside P (ix3 s r q) = P s (ix3 (0 : Fin 1) r q) := by
  refine congrArg (P s) (funext fun a => ?_)
  match a with
  | ⟨0, _⟩ => rfl
  | ⟨1, _⟩ => rfl
  | ⟨2, _⟩ => rfl

variable {I : Inp Ideal} {l : Fin 3} {W : RefW} {V : RefV} {c : Dev nD} {X : Vec Ideal S1x128x128 .f32} {A : RefX}

/-- Device `s`'s partial result is the layer's sum over device `s`'s hidden units. -/
theorem part_rows (h : Cuts I l W V) (hX : Rows c X A) (s : Dev nD) (r q : Fin 128) :
    part I l s X (ix3 (0 : Fin 1) r q)
      = ∑ k : Fin 256, max (∑ d : Fin 128, A (ix2 (row c r) d) * W (ix2 d (hid s k))) 0 * V (ix2 (hid s k) q) := by
  unfold part
  rw [part_at]
  refine Finset.sum_congr rfl fun k _ => ?_
  rw [h.v]
  refine congrArg (fun z => max z 0 * _) (Finset.sum_congr rfl fun d _ => ?_)
  rw [h.w, hX]

/-- The four partial results add up to the layer on the device's rows. -/
theorem sum_rows (h : Cuts I l W V) (hX : Rows c X A) (r q : Fin 128) :
    beside (fun s => part I l s X) (ix3 (0 : Fin 4) r q) + beside (fun s => part I l s X) (ix3 (1 : Fin 4) r q)
        + beside (fun s => part I l s X) (ix3 (2 : Fin 4) r q) + beside (fun s => part I l s X) (ix3 (3 : Fin 4) r q)
      = refLayer W V A (ix2 (row c r) q) := by
  rw [refLayer_at, Fin.sum_univ_tiles 4 256 rfl, Fin.sum_univ_four]
  simp only [beside_at, part_rows h hX]
  rfl

/-- So a layer takes the device's rows to the device's rows. -/
theorem total_rows (h : Cuts I l W V) (hX : Rows c X A) : Rows c (total I l X) (refLayer W V A) := fun r q => by
  unfold total
  rw [pay8_at, sum_rows h hX]

/-! ## The three layers -/

/-- The reference's three layers. -/
def refNet (A : RefX) (W₀ W₁ W₂ : RefW) (V₀ V₁ V₂ : RefV) : RefX := refLayer W₂ V₂ (refLayer W₁ V₁ (refLayer W₀ V₀ A))

/-- A device's result is its rows of the three layers' value. -/
theorem res_rows {I : Inp Ideal} {A : RefX} {W₀ W₁ W₂ : RefW} {V₀ V₁ V₂ : RefV} {c : Dev nD}
    (hx : ∀ (r d : Fin 128), I.x c (ix2 r d) = A (ix2 (row c r) d))
    (h0 : Cuts I 0 W₀ V₀) (h1 : Cuts I 1 W₁ V₁) (h2 : Cuts I 2 W₂ V₂) (r q : Fin 128) :
    res I c (ix2 r q) = refNet A W₀ W₁ W₂ V₀ V₁ V₂ (ix2 (row c r) q) := by
  have h : Rows c (k0_pay1 (I.x c)) A := fun r d => (pay1_at _ r d).trans (hx r d)
  unfold res
  rw [pay23_at]
  exact sum_rows h2 (total_rows h1 (total_rows h0 h)) r q

/-! ## From the blocks of whole arrays -/

/-- A block of rows at an index, -/
theorem block_x (A : RefX) (c : Dev nD) (r d : Fin 128) :
    (Layout.block ⟨2, ![128, 128]⟩ ⟨2, ![512, 128]⟩ 0 4 c A : Vec Ideal S128x128 .f32) (ix2 r d) = A (ix2 (row c r) d) :=
  congrArg A (by rw [eq_ix2 (Layout.Tiles.idx _ _ _)]; rfl)

/-- a block of columns, -/
theorem block_w (W : RefW) (s : Dev nD) (d : Fin 128) (k : Fin 256) :
    (Layout.block ⟨2, ![128, 256]⟩ ⟨2, ![128, 1024]⟩ 1 4 s W : Vec Ideal S128x256 .f32) (ix2 d k) = W (ix2 d (hid s k)) :=
  congrArg W (by rw [eq_ix2 (Layout.Tiles.idx _ _ _)]; rfl)

/-- and a block of rows of the second weights. -/
theorem block_v (V : RefV) (s : Dev nD) (k : Fin 256) (q : Fin 128) :
    (Layout.block ⟨2, ![256, 128]⟩ ⟨2, ![1024, 128]⟩ 0 4 s V : Vec Ideal S256x128 .f32) (ix2 k q) = V (ix2 (hid s k) q) :=
  congrArg V (by rw [eq_ix2 (Layout.Tiles.idx _ _ _)]; rfl)

/-- With the devices' arguments blocks of whole arrays, device `c`'s result is block `c` of the reference's. -/
theorem res_block {I : Inp Ideal} {A : RefX} {W₀ W₁ W₂ : RefW} {V₀ V₁ V₂ : RefV}
    (hx : ∀ c, I.x c = Layout.block ⟨2, ![128, 128]⟩ ⟨2, ![512, 128]⟩ 0 4 c A)
    (hw0 : ∀ c, I.w 0 c = Layout.block ⟨2, ![128, 256]⟩ ⟨2, ![128, 1024]⟩ 1 4 c W₀)
    (hw1 : ∀ c, I.w 1 c = Layout.block ⟨2, ![128, 256]⟩ ⟨2, ![128, 1024]⟩ 1 4 c W₁)
    (hw2 : ∀ c, I.w 2 c = Layout.block ⟨2, ![128, 256]⟩ ⟨2, ![128, 1024]⟩ 1 4 c W₂)
    (hv0 : ∀ c, I.v 0 c = Layout.block ⟨2, ![256, 128]⟩ ⟨2, ![1024, 128]⟩ 0 4 c V₀)
    (hv1 : ∀ c, I.v 1 c = Layout.block ⟨2, ![256, 128]⟩ ⟨2, ![1024, 128]⟩ 0 4 c V₁)
    (hv2 : ∀ c, I.v 2 c = Layout.block ⟨2, ![256, 128]⟩ ⟨2, ![1024, 128]⟩ 0 4 c V₂) (c : Dev nD) :
    res I c = Layout.block ⟨2, ![128, 128]⟩ ⟨2, ![512, 128]⟩ 0 4 c (refNet A W₀ W₁ W₂ V₀ V₁ V₂) := by
  have cuts : ∀ l W V, (∀ c, I.w l c = Layout.block ⟨2, ![128, 256]⟩ ⟨2, ![128, 1024]⟩ 1 4 c W) →
      (∀ c, I.v l c = Layout.block ⟨2, ![256, 128]⟩ ⟨2, ![1024, 128]⟩ 0 4 c V) → Cuts I l W V := fun l W V hw hv =>
    ⟨fun s d k => by rw [hw]; exact block_w W s d k, fun s k q => by rw [hv]; exact block_v V s k q⟩
  refine funext fun i => ?_
  rw [eq_ix2 i]
  refine (res_rows (fun r d => by rw [hx]; exact block_x A c r d) (cuts 0 W₀ V₀ hw0 hv0) (cuts 1 W₁ V₁ hw1 hv1) (cuts 2 W₂ V₂ hw2 hv2)
    (i 0) (i 1)).trans (block_x _ c (i 0) (i 1)).symm

/-! ## The staged contents and the result, as whole arrays -/

section Whole
variable (m : (ℓ : Loc nD τ sig) → Buf (Elt Ideal) ℓ) (ρ : Dev nD → PrngReg)

/-- Each staged block is the device's whole argument array; so the activations, and below the six weights. -/
theorem inp_x (c : Dev nD) : (inp m ρ).x c = m ((c : Thread nD τ).loc main_arg0) := by
  have h := Memref.read_access_unit_zero (Elt Ideal) main_arg0 (off := fun a => (win0_0.index (0 : Fin 1)) a * main_arg0.ty.shape.size a)
    (funext fun a => by fin_cases a <;> decide) (fun a => by fin_cases a <;> decide) (m ((c : Thread nD τ).loc main_arg0))
  unfold inp s₀
  exact h
theorem inp_w0 (c : Dev nD) : (inp m ρ).w 0 c = m ((c : Thread nD τ).loc main_arg1) := by
  have h := Memref.read_access_unit_zero (Elt Ideal) main_arg1 (off := fun a => (win0_1.index (0 : Fin 1)) a * main_arg1.ty.shape.size a)
    (funext fun a => by fin_cases a <;> decide) (fun a => by fin_cases a <;> decide) (m ((c : Thread nD τ).loc main_arg1))
  unfold inp s₀
  exact h
theorem inp_w1 (c : Dev nD) : (inp m ρ).w 1 c = m ((c : Thread nD τ).loc main_arg2) := by
  have h := Memref.read_access_unit_zero (Elt Ideal) main_arg2 (off := fun a => (win0_3.index (0 : Fin 1)) a * main_arg2.ty.shape.size a)
    (funext fun a => by fin_cases a <;> decide) (fun a => by fin_cases a <;> decide) (m ((c : Thread nD τ).loc main_arg2))
  unfold inp s₀
  exact h
theorem inp_w2 (c : Dev nD) : (inp m ρ).w 2 c = m ((c : Thread nD τ).loc main_arg3) := by
  have h := Memref.read_access_unit_zero (Elt Ideal) main_arg3 (off := fun a => (win0_5.index (0 : Fin 1)) a * main_arg3.ty.shape.size a)
    (funext fun a => by fin_cases a <;> decide) (fun a => by fin_cases a <;> decide) (m ((c : Thread nD τ).loc main_arg3))
  unfold inp s₀
  exact h
theorem inp_v0 (c : Dev nD) : (inp m ρ).v 0 c = m ((c : Thread nD τ).loc main_arg4) := by
  have h := Memref.read_access_unit_zero (Elt Ideal) main_arg4 (off := fun a => (win0_2.index (0 : Fin 1)) a * main_arg4.ty.shape.size a)
    (funext fun a => by fin_cases a <;> decide) (fun a => by fin_cases a <;> decide) (m ((c : Thread nD τ).loc main_arg4))
  unfold inp s₀
  exact h
theorem inp_v1 (c : Dev nD) : (inp m ρ).v 1 c = m ((c : Thread nD τ).loc main_arg5) := by
  have h := Memref.read_access_unit_zero (Elt Ideal) main_arg5 (off := fun a => (win0_4.index (0 : Fin 1)) a * main_arg5.ty.shape.size a)
    (funext fun a => by fin_cases a <;> decide) (fun a => by fin_cases a <;> decide) (m ((c : Thread nD τ).loc main_arg5))
  unfold inp s₀
  exact h
theorem inp_v2 (c : Dev nD) : (inp m ρ).v 2 c = m ((c : Thread nD τ).loc main_arg6) := by
  have h := Memref.read_access_unit_zero (Elt Ideal) main_arg6 (off := fun a => (win0_6.index (0 : Fin 1)) a * main_arg6.ty.shape.size a)
    (funext fun a => by fin_cases a <;> decide) (fun a => by fin_cases a <;> decide) (m ((c : Thread nD τ).loc main_arg6))
  unfold inp s₀
  exact h

/-- The result array ends as the body's result. -/
theorem final_res (c : Dev nD) : finalA m ρ c (7 : Fin 8) = res (inp m ρ) c :=
  (Memref.read_access_unit_zero (Elt Ideal) main_v1 (off := fun a => (win0_7.index (0 : Fin 1)) a * main_v1.ty.shape.size a)
    (funext fun a => by fin_cases a <;> decide) (fun a => by fin_cases a <;> decide) _).symm.trans (final_out m ρ c)

end Whole

end Cert.KernelIdeal.Prf

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Value
public import Idealize.ShloMosaic.Adequacy
public import Idealize.ShloMosaic.Init

@[expose] public section

noncomputable section

namespace Cert.Proof

open Idealize.ShloMosaic Idealize.SL.Sem

/-- The kernel's run, read at its arguments and its counters. -/
theorem frame_kernel : Cert.quiescent_Kernel := by
  intro m ρ _
  have hi := Cert.Kernel.Prf.final_in (F := Bits) m ρ
  exact (θ_run Cert.Kernel.defs _ _).mono (fun _ h => ⟨fun c =>
      ⟨(h.1 c (0 : Fin 8)).trans (hi c 0 rfl), (h.1 c (1 : Fin 8)).trans (hi c 1 rfl), (h.1 c (3 : Fin 8)).trans (hi c 3 rfl),
        (h.1 c (5 : Fin 8)).trans (hi c 5 rfl), (h.1 c (2 : Fin 8)).trans (hi c 2 rfl), (h.1 c (4 : Fin 8)).trans (hi c 4 rfl),
        (h.1 c (6 : Fin 8)).trans (hi c 6 rfl)⟩, h.2⟩)
    (Cert.Kernel.Prf.run_main (F := Bits) m ρ)

theorem frame_kernelIdeal : Cert.quiescent_KernelIdeal := by
  intro m ρ _
  have hi := Cert.KernelIdeal.Prf.final_in (F := Ideal) m ρ
  exact (θ_run Cert.KernelIdeal.defs _ _).mono (fun _ h => ⟨fun c =>
      ⟨(h.1 c (0 : Fin 8)).trans (hi c 0 rfl), (h.1 c (1 : Fin 8)).trans (hi c 1 rfl), (h.1 c (3 : Fin 8)).trans (hi c 3 rfl),
        (h.1 c (5 : Fin 8)).trans (hi c 5 rfl), (h.1 c (2 : Fin 8)).trans (hi c 2 rfl), (h.1 c (4 : Fin 8)).trans (hi c 4 rfl),
        (h.1 c (6 : Fin 8)).trans (hi c 6 rfl)⟩, h.2⟩)
    (Cert.KernelIdeal.Prf.run_main (F := Ideal) m ρ)

/-- The reference's run, read at its arguments; it has no semaphores. -/
theorem frame_reference : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- Both runs, with the reference's three layers for the value. -/
theorem algebraic : Cert.algebraic_KernelIdeal_ReferenceIdeal := by
  intro m ρ m' ρ' _ hb
  have hi := Cert.KernelIdeal.Prf.final_in (F := Ideal) m ρ
  refine ⟨_, (θ_run Cert.KernelIdeal.defs _ _).mono (fun _ h c =>
      ⟨(h.1 c (7 : Fin 8)).trans ((Cert.KernelIdeal.Prf.final_res m ρ c).trans (Cert.KernelIdeal.Prf.res_block
          (fun c => (Cert.KernelIdeal.Prf.inp_x m ρ c).trans (hb c).1)
          (fun c => (Cert.KernelIdeal.Prf.inp_w0 m ρ c).trans (hb c).2.1)
          (fun c => (Cert.KernelIdeal.Prf.inp_w1 m ρ c).trans (hb c).2.2.1)
          (fun c => (Cert.KernelIdeal.Prf.inp_w2 m ρ c).trans (hb c).2.2.2.1)
          (fun c => (Cert.KernelIdeal.Prf.inp_v0 m ρ c).trans (hb c).2.2.2.2.1)
          (fun c => (Cert.KernelIdeal.Prf.inp_v1 m ρ c).trans (hb c).2.2.2.2.2.1)
          (fun c => (Cert.KernelIdeal.Prf.inp_v2 m ρ c).trans (hb c).2.2.2.2.2.2) c)),
        (h.1 c (0 : Fin 8)).trans (hi c 0 rfl), (h.1 c (1 : Fin 8)).trans (hi c 1 rfl), (h.1 c (3 : Fin 8)).trans (hi c 3 rfl),
        (h.1 c (5 : Fin 8)).trans (hi c 5 rfl), (h.1 c (2 : Fin 8)).trans (hi c 2 rfl), (h.1 c (4 : Fin 8)).trans (hi c 4 rfl),
        (h.1 c (6 : Fin 8)).trans (hi c 6 rfl)⟩)
      (Cert.KernelIdeal.Prf.run_main (F := Ideal) m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
